-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 256]⟩ ⟨2, ![1024, 1024]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 1024]⟩ ⟨2, ![1024, 1024]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 1024]⟩ ⟨2, ![1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x256 : Shape := ⟨2, ![1024, 256]⟩
abbrev S256x1024 : Shape := ⟨2, ![256, 1024]⟩
abbrev S24x256x128 : Shape := ⟨3, ![24, 256, 128]⟩
abbrev S24 : Shape := ⟨1, ![24]⟩
abbrev S_ : Shape := ⟨0, ![]⟩
abbrev S256x256 : Shape := ⟨2, ![256, 256]⟩
abbrev S256x128 : Shape := ⟨2, ![256, 128]⟩
abbrev S1x256x128 : Shape := ⟨3, ![1, 256, 128]⟩
abbrev S1 : Shape := ⟨1, ![1]⟩

abbrev nBuf : Space → Nat
  | .hbm => 3
  | .vmem => 5
  | .smem => 0
  | _ => 0

abbrev bufTy : (tb : Table) → Fin (tcTables nBuf tb) → BufTy
  | .hbm, ⟨0, _⟩ => ⟨S1024x256, .f32⟩
  | .hbm, ⟨1, _⟩ => ⟨S256x1024, .f32⟩
  | .hbm, ⟨2, _⟩ => ⟨S256x1024, .f32⟩
  | .local _ .vmem, ⟨0, _⟩ => ⟨S1024x256, .f32⟩
  | .local _ .vmem, ⟨1, _⟩ => ⟨S256x1024, .f32⟩
  | .local _ .vmem, ⟨2, _⟩ => ⟨S256x1024, .f32⟩
  | .local _ .vmem, ⟨3, _⟩ => ⟨S24x256x128, .f32⟩
  | .local _ .vmem, ⟨4, _⟩ => ⟨S24x256x128, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  (ofTc nBuf bufTy 1 51 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_off1 (d0 : Dev nD) (c3_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v13 : BitVec 32 := Scalar.addi v2 c3_i32
  let c4_i32_10 : BitVec 32 := 4#32
  let v14 : BitVec 32 := Scalar.remsi v13 c4_i32_10
  let c256_i32 : BitVec 32 := 256#32
  let v15 : BitVec 32 := Scalar.muli v14 c256_i32
  let v16 : Index := Scalar.indexCast v15
  let c0 : Index := 0#32
  ![v16.toNat, 0]
def k0_dev3 (d0 : Dev nD) : Nat :=
  let c0_i32_77 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_76 : BitVec 32 := 1#32
  let v109 : BitVec 32 := Scalar.muli v7 c1_i32_76
  let v110 : BitVec 32 := Scalar.addi c0_i32_77 v109
  v110.toNat
def k0_dev4 (d0 : Dev nD) : Nat :=
  let c0_i32_86 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_85 : BitVec 32 := 1#32
  let v119 : BitVec 32 := Scalar.muli v5 c1_i32_85
  let v120 : BitVec 32 := Scalar.addi c0_i32_86 v119
  v120.toNat
def k0_dev5 (d0 : Dev nD) : Nat :=
  let c0_i32_96 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_95 : BitVec 32 := 1#32
  let v129 : BitVec 32 := Scalar.muli v7 c1_i32_95
  let v130 : BitVec 32 := Scalar.addi c0_i32_96 v129
  v130.toNat
def k0_dev6 (d0 : Dev nD) : Nat :=
  let c0_i32_105 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_104 : BitVec 32 := 1#32
  let v139 : BitVec 32 := Scalar.muli v5 c1_i32_104
  let v140 : BitVec 32 := Scalar.addi c0_i32_105 v139
  v140.toNat
def k0_dev7 (d0 : Dev nD) : Nat :=
  let c0_i32_114 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_113 : BitVec 32 := 1#32
  let v149 : BitVec 32 := Scalar.muli v7 c1_i32_113
  let v150 : BitVec 32 := Scalar.addi c0_i32_114 v149
  v150.toNat
def k0_dev8 (d0 : Dev nD) : Nat :=
  let c0_i32_123 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_122 : BitVec 32 := 1#32
  let v159 : BitVec 32 := Scalar.muli v5 c1_i32_122
  let v160 : BitVec 32 := Scalar.addi c0_i32_123 v159
  v160.toNat
def k0_dev9 (d0 : Dev nD) : Nat :=
  let c0_i32_132 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_131 : BitVec 32 := 1#32
  let v169 : BitVec 32 := Scalar.muli v7 c1_i32_131
  let v170 : BitVec 32 := Scalar.addi c0_i32_132 v169
  v170.toNat
def k0_dev10 (d0 : Dev nD) : Nat :=
  let c0_i32_141 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_140 : BitVec 32 := 1#32
  let v179 : BitVec 32 := Scalar.muli v5 c1_i32_140
  let v180 : BitVec 32 := Scalar.addi c0_i32_141 v179
  v180.toNat
def k0_dev11 (d0 : Dev nD) : Nat :=
  let c0_i32_314 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_313 : BitVec 32 := 1#32
  let v397 : BitVec 32 := Scalar.muli v7 c1_i32_313
  let v398 : BitVec 32 := Scalar.addi c0_i32_314 v397
  v398.toNat
def k0_dev12 (d0 : Dev nD) : Nat :=
  let c0_i32_342 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_341 : BitVec 32 := 1#32
  let v423 : BitVec 32 := Scalar.muli v5 c1_i32_341
  let v424 : BitVec 32 := Scalar.addi c0_i32_342 v423
  v424.toNat
def k0_dev13 (d0 : Dev nD) : Nat :=
  let c0_i32_371 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_370 : BitVec 32 := 1#32
  let v449 : BitVec 32 := Scalar.muli v7 c1_i32_370
  let v450 : BitVec 32 := Scalar.addi c0_i32_371 v449
  v450.toNat
def k0_dev14 (d0 : Dev nD) : Nat :=
  let c0_i32_399 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_398 : BitVec 32 := 1#32
  let v475 : BitVec 32 := Scalar.muli v5 c1_i32_398
  let v476 : BitVec 32 := Scalar.addi c0_i32_399 v475
  v476.toNat
def k0_dev15 (d0 : Dev nD) : Nat :=
  let c0_i32_427 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_426 : BitVec 32 := 1#32
  let v501 : BitVec 32 := Scalar.muli v7 c1_i32_426
  let v502 : BitVec 32 := Scalar.addi c0_i32_427 v501
  v502.toNat
def k0_dev16 (d0 : Dev nD) : Nat :=
  let c0_i32_455 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_454 : BitVec 32 := 1#32
  let v527 : BitVec 32 := Scalar.muli v5 c1_i32_454
  let v528 : BitVec 32 := Scalar.addi c0_i32_455 v527
  v528.toNat
def k0_dev17 (d0 : Dev nD) : Nat :=
  let c0_i32_483 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_482 : BitVec 32 := 1#32
  let v553 : BitVec 32 := Scalar.muli v7 c1_i32_482
  let v554 : BitVec 32 := Scalar.addi c0_i32_483 v553
  v554.toNat
def k0_dev18 (d0 : Dev nD) : Nat :=
  let c0_i32_511 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_510 : BitVec 32 := 1#32
  let v579 : BitVec 32 := Scalar.muli v5 c1_i32_510
  let v580 : BitVec 32 := Scalar.addi c0_i32_511 v579
  v580.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_516 : BitVec 32 := 256#32
  let v589 : BitVec 32 := Scalar.muli v2 c256_i32_516
  let v590 : Index := Scalar.indexCast v589
  let c0_517 : Index := 0#32
  ![v590.toNat, 0]
def k0_dev19 (d0 : Dev nD) : Nat :=
  let c0_i32_580 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_579 : BitVec 32 := 1#32
  let v661 : BitVec 32 := Scalar.muli v7 c1_i32_579
  let v662 : BitVec 32 := Scalar.addi c0_i32_580 v661
  v662.toNat
def k0_dev20 (d0 : Dev nD) : Nat :=
  let c0_i32_608 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_607 : BitVec 32 := 1#32
  let v687 : BitVec 32 := Scalar.muli v5 c1_i32_607
  let v688 : BitVec 32 := Scalar.addi c0_i32_608 v687
  v688.toNat
def k0_dev21 (d0 : Dev nD) : Nat :=
  let c0_i32_636 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_635 : BitVec 32 := 1#32
  let v713 : BitVec 32 := Scalar.muli v7 c1_i32_635
  let v714 : BitVec 32 := Scalar.addi c0_i32_636 v713
  v714.toNat
def k0_dev22 (d0 : Dev nD) : Nat :=
  let c0_i32_664 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_663 : BitVec 32 := 1#32
  let v739 : BitVec 32 := Scalar.muli v5 c1_i32_663
  let v740 : BitVec 32 := Scalar.addi c0_i32_664 v739
  v740.toNat
def k0_dev23 (d0 : Dev nD) : Nat :=
  let c0_i32_692 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_691 : BitVec 32 := 1#32
  let v765 : BitVec 32 := Scalar.muli v7 c1_i32_691
  let v766 : BitVec 32 := Scalar.addi c0_i32_692 v765
  v766.toNat
def k0_dev24 (d0 : Dev nD) : Nat :=
  let c0_i32_720 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_719 : BitVec 32 := 1#32
  let v791 : BitVec 32 := Scalar.muli v5 c1_i32_719
  let v792 : BitVec 32 := Scalar.addi c0_i32_720 v791
  v792.toNat
def k0_dev25 (d0 : Dev nD) : Nat :=
  let c0_i32_748 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_747 : BitVec 32 := 1#32
  let v817 : BitVec 32 := Scalar.muli v7 c1_i32_747
  let v818 : BitVec 32 := Scalar.addi c0_i32_748 v817
  v818.toNat
def k0_dev26 (d0 : Dev nD) : Nat :=
  let c0_i32_776 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_775 : BitVec 32 := 1#32
  let v843 : BitVec 32 := Scalar.muli v5 c1_i32_775
  let v844 : BitVec 32 := Scalar.addi c0_i32_776 v843
  v844.toNat
abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S_, .f32⟩
  | .hbm, ⟨4, _⟩ => ⟨S1024x1024, .f32⟩
  | .hbm, ⟨5, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Loop.lean ====
/-
# The kernel's body as loops

The body is printed unrolled: 24 products into the send slots, 24 transfers, 24 arrivals. This module writes the
same body as loops over the eight column segments (`ringBody`) — one definition per kind of step, indexed by the
segment and the hop — and proves that the printed body is that program, operation for operation (`body_eq`).
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option maxRecDepth 16384

open Idealize.ShloMosaic Idealize.ShloMosaic.TcCoe Idealize.SL.Sem
open Cert.KernelIdeal Cert.KernelIdeal.Gen

noncomputable section

namespace Cert.GemmRing

variable {F : FTy → Type} [FloatOps F]

/-- Programs of the kernel's signature. -/
abbrev KProg (F : FTy → Type) (α : Type) : Type 1 := Prog (TpuEff nD τ sig (Elt F) Λ₀ .tc) α

/-- The slot of segment `q` and hop `h`: three consecutive slots per segment. -/
def slot (q : Fin 8) (h : Fin 3) : Fin 24 := ⟨3 * q.val + h.val, by omega⟩

theorem slot_inb (s : Fin 24) : ∀ a, (![s.val, 0, 0] : Fin 3 → ℕ) a + S1x256x128.size a ≤ S24x256x128.size a := by
  revert s; decide

/-- The rectangle of one slot of a slot buffer. -/
abbrev slotRect (s : Fin 24) : Rect S24x256x128 := Rect.unit (s := S24x256x128) ![s.val, 0, 0] S1x256x128.size (slot_inb s)

/-- One slot of a slot buffer, as a 256×128 array: what a transfer reads or writes. -/
abbrev slotRef (b : Memref sig .tc .vmem S24x256x128 .f32) (s : Fin 24) : Memref sig .tc .vmem S256x128 .f32 :=
  (b.slice (slotRect s) (fun _ => rfl)).squeeze S256x128 squeezes_S1x256x128_S256x128

theorem sem_inb (s : Fin 24) : ∀ a, (![s.val] : Fin 1 → ℕ) a + S1.size a ≤ S24.size a := by
  revert s; decide

/-- One semaphore of an array of 24. -/
abbrev semOf (b : DmaSems sig S24) (s : Fin 24) : DmaSem sig :=
  ((b.slice (Rect.unit (s := S24) ![s.val] S1.size (sem_inb s))).squeeze S_ squeezes_S1_S_).sem

theorem col_inb (q : Fin 8) : ∀ a, (![0, 128 * q.val] : Fin 2 → ℕ) a + S256x128.size a ≤ S256x1024.size a := by
  revert q; decide

/-- Column segment `q` of a 256×1024 array. -/
abbrev colRect (q : Fin 8) : Rect S256x1024 := Rect.unit (s := S256x1024) ![0, 128 * q.val] S256x128.size (col_inb q)

/-- The row offset of the chunk `k` places after device `d`'s own, as the kernel computes it. -/
def rowOff (d : Dev nD) : Fin 4 → Fin 2 → ℕ
  | 0 => k0_off2 d
  | 1 => k0_off1 d 1#32
  | 2 => k0_off1 d 2#32
  | 3 => k0_off1 d 3#32

theorem row_inb (d : Dev nD) (k : Fin 4) : ∀ a, rowOff d k a + S256x256.size a ≤ S1024x256.size a := by
  fin_cases k
  · exact k0_off2_inb d
  · exact k0_off1_inb d 0
  · exact k0_off1_inb d 1
  · exact k0_off1_inb d 2

/-- The 256 rows of that chunk. -/
abbrev rowRect (d : Dev nD) (k : Fin 4) : Rect S1024x256 := Rect.unit (s := S1024x256) (rowOff d k) S256x256.size (row_inb d k)

/-- The chunk a device sends (at hop 0) or adds to what arrived (at hops 1 and 2): segments 0–3 travel right and use
    the chunks 3, 2, 1 places on, segments 4–7 travel left and use the chunks 1, 2, 3 places on. -/
def chunk (q : Fin 8) (h : Fin 3) : Fin 4 := if q.val < 4 then ⟨3 - h.val, by omega⟩ else ⟨1 + h.val, by omega⟩

/-- The neighbour segment `q` is sent to, as the kernel computes it. -/
def peerOf (d : Dev nD) (q : Fin 8) : Dev nD := if q.val < 4 then ⟨k0_dev2 d, k0_dev2_lt d⟩ else ⟨k0_dev1 d, k0_dev1_lt d⟩

/-- The product of a 256×256 block and a 256×128 block. -/
def prodv (xv : Vec F S256x256 .f32) (wv : Vec F S256x128 .f32) : FVec F S256x128 .f32 :=
  matmul dot_S256x256_S256x128_S256x128_1_0_0_1_n_n none (shapeCast S256x256 xv shapeCasts_S256x256_S256x256)
    (shapeCast S256x128 wv shapeCasts_S256x128_S256x128) (constant S256x128 .f32 0x00000000#32)

/-- The product laid out as a slot. -/
def prodSlot (xv : Vec F S256x256 .f32) (wv : Vec F S256x128 .f32) : FVec F S1x256x128 .f32 :=
  shapeCast S1x256x128 (prodv xv wv) shapeCasts_S256x128_S1x256x128

/-- The sum of two slots. -/
def sumSlot (a b : Vec F S1x256x128 .f32) : FVec F S1x256x128 .f32 :=
  shapeCast S1x256x128 (addf (shapeCast S256x128 a shapeCasts_S1x256x128_S256x128) (shapeCast S256x128 b shapeCasts_S1x256x128_S256x128))
    shapeCasts_S256x128_S1x256x128

/-- What is stored to the result: the arrived sum plus the device's own product, cut off below at zero. -/
def outv (own : FVec F S256x128 .f32) (b : Vec F S1x256x128 .f32) : FVec F S256x128 .f32 :=
  maximumf (addf (shapeCast S256x128 b shapeCasts_S1x256x128_S256x128) own) (broadcast S256x128 (Scalar.ofBits .f32 0x00000000#32))

variable (x : Memref sig .tc .vmem S1024x256 .f32) (w o : Memref sig .tc .vmem S256x1024 .f32)
  (sb rb : Memref sig .tc .vmem S24x256x128 .f32) (ss sr : DmaSems sig S24)

/-- Run `f` on each element of a list, in order. -/
def each {A : Type} (f : A → KProg F PUnit) : List A → KProg F PUnit
  | [] => pure ⟨⟩
  | a :: l => do f a; each f l

/-- The product of row chunk `k` and column segment `q`, from the operands. -/
def product (d : Dev nD) (k : Fin 4) (q : Fin 8) {α : Type} (f : Vec F S256x256 .f32 → Vec F S256x128 .f32 → KProg F α) : KProg F α := do
  let xv : Vec F S256x256 .f32 ← Prog.lift (.load x (rowRect d k).toLoadRect (View.loadsAt_vmem h_S256x256))
  let wv : Vec F S256x128 .f32 ← Prog.lift (.load w (colRect q).toLoadRect (View.loadsAt_vmem h_S256x128))
  f xv wv

/-- Store a slot (the printed store follows a load of the same slot, which nothing reads). -/
def putSlot (s : Fin 24) (v : Vec F S1x256x128 .f32) : KProg F PUnit := do
  let _ : Vec F S1x256x128 .f32 ← Prog.lift (.load sb (slotRect s).toLoadRect (View.loadsAt_vmem h_S1x256x128))
  Prog.lift (.store sb (slotRect s) v Finset.univ (View.stores_vmem_bits_univ h_S1x256x128 rfl) (.inl rfl))

/-- Fill the send slot of segment `q` and hop `h` with the device's own product. -/
def stage (d : Dev nD) (h : Fin 3) (q : Fin 8) : KProg F PUnit :=
  product x w d (chunk q h) q fun xv wv => putSlot sb (slot q h) (prodSlot xv wv)

/-- Start the transfer of the send slot of segment `q` and hop `h` to the neighbour's receive slot. -/
def launch (d : Dev nD) (h : Fin 3) (q : Fin 8) : KProg F PUnit :=
  Prog.lift (.enqueueDma (slotRef sb (slot q h)) (.remote (Dev.tc (peerOf d q)) (slotRef rb (slot q h)) (.dma (semOf ss (slot q h))))
    (.dma (semOf sr (slot q h))) ((View.wordExact_bits rfl).reshape _ _) ((View.wordExact_bits rfl).reshape _ _) ⟨⟨rfl, Or.inl rfl⟩, trivial⟩)

/-- Wait for the arrival of segment `q` and hop `h`. -/
def arrive (h : Fin 3) (q : Fin 8) : KProg F PUnit :=
  Prog.lift (.waitDma2 (semOf sr (slot q h)) (slotRef sb (slot q h)) (slotRef rb (slot q h))
    ((View.wordExact_bits rfl).reshape _ _) ((View.wordExact_bits rfl).reshape _ _))

/-- One middle hop of segment `q`: wait for the arrival at hop `h`, add it to the send slot of hop `h'`, send that on. -/
def hop (d : Dev nD) (h h' : Fin 3) (q : Fin 8) : KProg F PUnit := do
  arrive sb rb sr h q
  let a : Vec F S1x256x128 .f32 ← Prog.lift (.load sb (slotRect (slot q h')).toLoadRect (View.loadsAt_vmem h_S1x256x128))
  let b : Vec F S1x256x128 .f32 ← Prog.lift (.load rb (slotRect (slot q h)).toLoadRect (View.loadsAt_vmem h_S1x256x128))
  putSlot sb (slot q h') (sumSlot a b)
  launch sb rb ss sr d h' q

/-- The device's own products of each segment of a list, added to a table of them. -/
def owns (d : Dev nD) : List (Fin 8) → (Fin 8 → FVec F S256x128 .f32) → KProg F (Fin 8 → FVec F S256x128 .f32)
  | [], t => pure t
  | q :: l, t => product x w d 0 q fun xv wv => owns d l (fun q' => if q' = q then prodv xv wv else t q')

/-- The last step of segment `q`: wait for the sum of the other devices' products, add the device's own and store. -/
def finish (own : Fin 8 → FVec F S256x128 .f32) (q : Fin 8) : KProg F PUnit := do
  arrive sb rb sr 2 q
  let b : Vec F S1x256x128 .f32 ← Prog.lift (.load rb (slotRect (slot q 2)).toLoadRect (View.loadsAt_vmem h_S1x256x128))
  let _ : Vec F S256x128 .f32 ← Prog.lift (.load o (colRect q).toLoadRect (View.loadsAt_vmem h_S256x128))
  Prog.lift (.store o (colRect q) (outv (own q) b) Finset.univ (View.stores_vmem_bits_univ h_S256x128 rfl) (.inl rfl))

/-- Wait until the transfer out of the send slot of segment `q` and hop `h` has read it. -/
def drain (q : Fin 8) (h : Fin 3) : KProg F PUnit :=
  Prog.lift (.waitDma2 (semOf ss (slot q h)) (slotRef rb (slot q h)) (slotRef sb (slot q h))
    ((View.wordExact_bits rfl).reshape _ _) ((View.wordExact_bits rfl).reshape _ _))

/-- The order in which the segments are visited: the two directions alternate. -/
def order : List (Fin 8) := [0, 4, 1, 5, 2, 6, 3, 7]

/-- The barrier semaphore. -/
abbrev barSem : Sem sig := (SemArray.scalar (sig.barrier 0 rfl) : Sems sig S_).sem

/-- The kernel's body, as loops over the segments. -/
def ringBody : KProg F PUnit := do
  let d : Dev nD ← Prog.lift .deviceId
  semSignalWord (⟨k0_dev1 d, k0_dev1_lt d⟩ : Dev nD) barSem 1#32
  semSignalWord (⟨k0_dev2 d, k0_dev2_lt d⟩ : Dev nD) barSem 1#32
  each (stage x w sb d 0) order
  semWaitWord barSem 2#32
  each (launch sb rb ss sr d 0) order
  each (stage x w sb d 1) order
  each (stage x w sb d 2) order
  each (hop sb rb ss sr d 0 1) order
  let own ← owns x w d order (fun _ => constant S256x128 .f32 0x00000000#32)
  each (hop sb rb ss sr d 1 2) order
  each (finish o sb rb sr own) order
  each (fun q => each (drain sb rb ss q) [0, 1, 2]) [0, 1, 2, 3, 4, 5, 6, 7]

set_option maxRecDepth 65536 in
/-- The printed body is the looping one. -/
theorem body_eq (hx : x.IsWhole) (hw : w.IsWhole) (ho : o.IsWhole) (hsb : sb.IsWhole) (hrb : rb.IsWhole) :
    cc0_body (F := F) x hx w hw o ho sb hsb rb hrb ss sr = ringBody x w o sb rb ss sr := by
  sl_kernel_rfl

end Cert.GemmRing

end
-- ==== Proof.Proto.lean ====
/-
# The protocol of the ring

Four devices, each with 24 send slots and 24 receive slots: one of each per column segment (8) and hop (3), used once.
A transfer copies a send slot of device `c` to the same receive slot of a neighbour. The rounds library's cells are the
barrier semaphore and, per segment and hop, a send and a receive semaphore. This module names them, says what each
one's signal hands over (the schedule), what a device owes at launch and the levels its waits are ordered by.
-/
module

public import proofs.«01_k».proof.Proof.Loop
public import Idealize.ShloMosaic.Lib.Ring
public import Idealize.ShloMosaic.Lib.Rounds

@[expose] public section

set_option maxRecDepth 16384

noncomputable section

namespace Cert.GemmRing

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's rounds and the ring's, side by side -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter zero. -/
def s₀ : MemSt nD τ sig (Elt F) := ⟨m, fun _ => 0, ρ⟩

/-! ## The ring -/

set_option backward.proofsInPublic true in
/-- The device after `c`. -/
def nxt (c : Dev nD) : Dev nD := ⟨(c.val + 1) % 4, Nat.mod_lt _ (by decide)⟩
set_option backward.proofsInPublic true in
/-- The device before `c`. -/
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide

theorem dev1_eq (c : Dev nD) : (⟨k0_dev1 c, k0_dev1_lt c⟩ : Dev nD) = prv c := Fin.ext (k0_dev1_eq c)
theorem dev2_eq (c : Dev nD) : (⟨k0_dev2 c, k0_dev2_lt c⟩ : Dev nD) = nxt c := Fin.ext (k0_dev2_eq c)

/-- Whether a segment travels right. -/
def right (q : Fin 8) : Bool := decide (q.val < 4)

/-- The device segment `q` of `c` is sent to. -/
def dst (c : Dev nD) (q : Fin 8) : Dev nD := if right q then nxt c else prv c
/-- The device segment `q` comes to `c` from. -/
def src (c : Dev nD) (q : Fin 8) : Dev nD := if right q then prv c else nxt c

theorem dst_src (c : Dev nD) (q : Fin 8) : dst (src c q) q = c := by revert c q; decide
theorem src_dst (c : Dev nD) (q : Fin 8) : src (dst c q) q = c := by revert c q; decide

theorem peerOf_eq (c : Dev nD) (q : Fin 8) : peerOf c q = dst c q := by
  unfold peerOf dst right
  rw [dev1_eq, dev2_eq]
  by_cases h : q.val < 4 <;> simp [h]

/-! ## The buffers and the cells -/

abbrev xM : Memref sig .tc .vmem S1024x256 .f32 := Memref.whole cc0_stg0_0
abbrev wM : Memref sig .tc .vmem S256x1024 .f32 := Memref.whole cc0_stg1_0
abbrev oM : Memref sig .tc .vmem S256x1024 .f32 := Memref.whole cc0_stg2_0
abbrev sbM : Memref sig .tc .vmem S24x256x128 .f32 := Memref.whole cc0_scratch0
abbrev rbM : Memref sig .tc .vmem S24x256x128 .f32 := Memref.whole cc0_scratch1

/-- A segment and a hop. -/
abbrev Hop : Type := Fin 8 × Fin 3
/-- The slot of a segment and a hop. -/
abbrev slotAt (k : Hop) : Fin 24 := slot k.1 k.2

/-- The send semaphore of a segment and a hop. -/
abbrev sndS (k : Hop) : DmaSem sig := semOf cc0_scratch2 (slotAt k)
/-- The receive semaphore of a segment and a hop. -/
abbrev rcvS (k : Hop) : DmaSem sig := semOf cc0_scratch3 (slotAt k)

abbrev barCell (c : Dev nD) : GSem nD τ sig := ((c : Thread nD τ), .reg barSem)
abbrev sndCell (c : Dev nD) (k : Hop) : GSem nD τ sig := ((c : Thread nD τ), .dma (sndS k))
abbrev rcvCell (c : Dev nD) (k : Hop) : GSem nD τ sig := ((c : Thread nD τ), .dma (rcvS k))

/-- The kernel's scoped semaphores: `false` the send ones, `true` the receive ones. -/
abbrev Xfer : Type := Bool × Hop
def osem : Xfer → SemLoc sig
  | (false, k) => .dma (sndS k)
  | (true, k) => .dma (rcvS k)
/-- A device's cells: the barrier and the transfers' semaphores. -/
abbrev Key : Type := Option Xfer
def ksem : Key → SemLoc sig
  | none => .reg barSem
  | some x => osem x
abbrev kcell (ck : Dev nD × Key) : GSem nD τ sig := ((ck.1 : Thread nD τ), ksem ck.2)

/-- The semaphores of the two arrays lie one after the other from index 3 on. -/
def keyOf : SemLoc sig → Option Key
  | .reg s => if s = barSem then some none else none
  | .dma s => if h : 3 ≤ s.val ∧ s.val < 51 then
      some (some (decide (27 ≤ s.val), ⟨(s.val - 3) % 24 / 3, by omega⟩, ⟨(s.val - 3) % 3, by omega⟩)) else none

theorem keyOf_osem : ∀ x : Xfer, keyOf (osem x) = some (some x) := by decide +kernel
theorem keyOf_ksem (k : Key) : keyOf (ksem k) = some k := by
  cases k with
  | none => decide
  | some x => exact keyOf_osem x
theorem ksem_injective : Function.Injective ksem := fun a b h =>
  Option.some.inj ((keyOf_ksem a).symm.trans ((congrArg keyOf h).trans (keyOf_ksem b)))
theorem kcell_injective : Function.Injective (kcell : Dev nD × Key → GSem nD τ sig) := by
  rintro ⟨c, k⟩ ⟨c', k'⟩ h
  have h1 : c = c' := congrArg (fun g : GSem nD τ sig => g.1.1) h
  have h2 : k = k' := ksem_injective (congrArg Prod.snd h)
  rw [h1, h2]

theorem keyOf_bar : keyOf (.reg barSem) = some none := keyOf_ksem none
theorem keyOf_snd (k : Hop) : keyOf (.dma (sndS k)) = some (some (false, k)) := keyOf_osem (false, k)
theorem keyOf_rcv (k : Hop) : keyOf (.dma (rcvS k)) = some (some (true, k)) := keyOf_osem (true, k)

/-- The credit of one transfer. -/
abbrev N : ℕ := (slotRef rbM 0).view.dmaCredit
theorem N_pos : 0 < N := View.dmaCredit_pos _ (by decide)

/-! ## Slots -/

/-- Reading a slot. -/
abbrev readSlot (b : Memref sig .tc .vmem S24x256x128 .f32) (s : Fin 24) (f : b.view.ref.ty.Contents (Elt F)) : Vec F S1x256x128 .f32 :=
  b.view.readAt (Elt F) (slotRect s).toLoadRect f

/-- A send slot of device `c` at the contents `f`. -/
def sbPts (c : Dev nD) (s : Fin 24) (f : Buf (Elt F) ((c : Thread nD τ).loc cc0_scratch0)) : sProp 𝕄 :=
  ((c : Thread nD τ).loc cc0_scratch0) ↦[(slotRect s).set]{fullShare} f
/-- A receive slot of device `c` at the contents `f`. -/
def rbPts (c : Dev nD) (s : Fin 24) (f : Buf (Elt F) ((c : Thread nD τ).loc cc0_scratch1)) : sProp 𝕄 :=
  ((c : Thread nD τ).loc cc0_scratch1) ↦[(slotRect s).set]{fullShare} f

/-- A send slot whose contents read as `v`. -/
def sbV (c : Dev nD) (s : Fin 24) (v : Vec F S1x256x128 .f32) : sProp 𝕄 := iprop(∃ f, ⌜readSlot sbM s f = v⌝ ∗ sbPts c s f)
/-- A receive slot whose contents read as `v`. -/
def rbV (c : Dev nD) (s : Fin 24) (v : Vec F S1x256x128 .f32) : sProp 𝕄 := iprop(∃ f, ⌜readSlot rbM s f = v⌝ ∗ rbPts c s f)
/-- A send slot, whatever it holds. -/
def sbAny (c : Dev nD) (s : Fin 24) : sProp 𝕄 := iprop(∃ f, sbPts (F := F) c s f)
/-- A receive slot, whatever it holds. -/
def rbAny (c : Dev nD) (s : Fin 24) : sProp 𝕄 := iprop(∃ f, rbPts (F := F) c s f)

omit [FloatOps F] in
instance sbPts_storable (c : Dev nD) (s) (f) : BI.Storable (upEmb : UEmb _ 𝕄) (sbPts (F := F) c s f) := by unfold sbPts; infer_instance
omit [FloatOps F] in
instance rbPts_storable (c : Dev nD) (s) (f) : BI.Storable (upEmb : UEmb _ 𝕄) (rbPts (F := F) c s f) := by unfold rbPts; infer_instance
omit [FloatOps F] in
instance sbAny_storable (c : Dev nD) (s) : BI.Storable (upEmb : UEmb _ 𝕄) (sbAny (F := F) c s) := by unfold sbAny; infer_instance
omit [FloatOps F] in
instance rbAny_storable (c : Dev nD) (s) : BI.Storable (upEmb : UEmb _ 𝕄) (rbAny (F := F) c s) := by unfold rbAny; infer_instance
omit [FloatOps F] in
instance rbV_storable (c : Dev nD) (s) (v) : BI.Storable (upEmb : UEmb _ 𝕄) (rbV (F := F) c s v) := by unfold rbV; infer_instance

/-- The elements of a slot are those of its rectangle. -/
theorem sb_slot_set (s : Fin 24) : (slotRef sbM s).view.set = (slotRect s).set :=
  (View.set_reshape _ _).trans (View.set_slice_whole _ _)
theorem rb_slot_set (s : Fin 24) : (slotRef rbM s).view.set = (slotRect s).set :=
  (View.set_reshape _ _).trans (View.set_slice_whole _ _)

theorem mem_slot {s : Fin 24} {i : S24x256x128.Idx} : i ∈ (slotRect s).set ↔ (i 0).val = s.val := by
  rw [Rect.mem_set_unit]
  constructor
  · intro h
    have := h 0
    simp at this
    omega
  · intro h a
    have hi := (i a).isLt
    fin_cases a
    · simp; omega
    · exact ⟨Nat.zero_le _, by simpa using hi⟩
    · exact ⟨Nat.zero_le _, by simpa using hi⟩

theorem slotAt_injective : Function.Injective slotAt := by decide +kernel
theorem slotAt_surjective : Function.Surjective slotAt := by decide +kernel

theorem slots_disjoint (a b : Hop) (h : a ≠ b) : Disjoint (slotRect (slotAt a)).set (slotRect (slotAt b)).set :=
  Finset.disjoint_left.mpr fun i ha hb => h (slotAt_injective (Fin.ext ((mem_slot.mp ha).symm.trans (mem_slot.mp hb))))

theorem slots_cover : (Finset.univ.biUnion fun k : Hop => (slotRect (slotAt k)).set) = Finset.univ :=
  Finset.eq_univ_of_forall fun i => by
    obtain ⟨k, hk⟩ := slotAt_surjective (⟨(i 0).val, (i 0).isLt⟩ : Fin 24)
    exact Finset.mem_biUnion.mpr ⟨k, Finset.mem_univ _, mem_slot.mpr (congrArg Fin.val hk).symm⟩

omit [FloatOps F] in
theorem sbAny_of (c : Dev nD) (s : Fin 24) (f) : sbPts (F := F) c s f ⊢ sbAny (F := F) c s := by
  unfold sbAny; iintro H; iexists f; iexact H
omit [FloatOps F] in
theorem rbAny_of (c : Dev nD) (s : Fin 24) (f) : rbPts (F := F) c s f ⊢ rbAny (F := F) c s := by
  unfold rbAny; iintro H; iexists f; iexact H

/-- The elements of the slots, one set per segment and hop. -/
def slotSet (k : Hop) : Finset S24x256x128.Idx := (slotRect (slotAt k)).set

omit [FloatOps F] in
/-- A whole slot buffer is its slots. -/
theorem sb_split (c : Dev nD) (f : Buf (Elt F) ((c : Thread nD τ).loc cc0_scratch0)) :
    (((c : Thread nD τ).loc cc0_scratch0) ↦{fullShare} f : sProp 𝕄) ⊢ bigSep Finset.univ fun k : Hop => sbAny (F := F) c (slotAt k) := by
  rw [Ring.pointsTo_blocks slotSet (fun a b h => slots_disjoint a b h) slots_cover f]
  exact bigSep_mono fun k _ => sbAny_of c (slotAt k) f
omit [FloatOps F] in
theorem rb_split (c : Dev nD) (f : Buf (Elt F) ((c : Thread nD τ).loc cc0_scratch1)) :
    (((c : Thread nD τ).loc cc0_scratch1) ↦{fullShare} f : sProp 𝕄) ⊢ bigSep Finset.univ fun k : Hop => rbAny (F := F) c (slotAt k) := by
  rw [Ring.pointsTo_blocks slotSet (fun a b h => slots_disjoint a b h) slots_cover f]
  exact bigSep_mono fun k _ => rbAny_of c (slotAt k) f
omit [FloatOps F] in
theorem sb_join (c : Dev nD) (f₀ : Buf (Elt F) ((c : Thread nD τ).loc cc0_scratch0)) :
    (bigSep Finset.univ fun k : Hop => sbAny (F := F) c (slotAt k)) ⊢ (∃ f, ((c : Thread nD τ).loc cc0_scratch0) ↦{fullShare} f : sProp 𝕄) := by
  unfold sbAny sbPts
  exact Ring.pointsTo_blocks_join_exists (ℓ := (c : Thread nD τ).loc cc0_scratch0) slotSet (fun a b h => slots_disjoint a b h) slots_cover f₀
omit [FloatOps F] in
theorem rb_join (c : Dev nD) (f₀ : Buf (Elt F) ((c : Thread nD τ).loc cc0_scratch1)) :
    (bigSep Finset.univ fun k : Hop => rbAny (F := F) c (slotAt k)) ⊢ (∃ f, ((c : Thread nD τ).loc cc0_scratch1) ↦{fullShare} f : sProp 𝕄) := by
  unfold rbAny rbPts
  exact Ring.pointsTo_blocks_join_exists (ℓ := (c : Thread nD τ).loc cc0_scratch1) slotSet (fun a b h => slots_disjoint a b h) slots_cover f₀

omit [FloatOps F] in
/-- A slot read as a slot is the slot read as a 256×128 array, its indices renamed. -/
theorem readSlot_eq (b : Memref sig .tc .vmem S24x256x128 .f32) (s : Fin 24) (f : b.view.ref.ty.Contents (Elt F)) (j : S1x256x128.Idx) :
    readSlot b s f j = (slotRef b s).view.read (Elt F) f ((Shape.reshapeEquiv squeezes_S1x256x128_S256x128.numel_eq).symm j) :=
  congrArg (fun y => (b.view.slice (slotRect s)).read (Elt F) f y)
    (Equiv.apply_symm_apply (Shape.reshapeEquiv squeezes_S1x256x128_S256x128.numel_eq) j).symm

omit [FloatOps F] in
/-- A slot copied from a send slot reads as that slot. -/
theorem read_copied (s : Fin 24) (fd : (cc0_scratch1 : Ref sig .tc).ty.Contents (Elt F)) (fs : (cc0_scratch0 : Ref sig .tc).ty.Contents (Elt F)) :
    readSlot (F := F) rbM s ((slotRef rbM s).view.write (Elt F) fd ((slotRef sbM s).view.read (Elt F) fs) Finset.univ) = readSlot sbM s fs :=
  funext fun j => (readSlot_eq rbM s _ j).trans
    ((congrFun (View.read_write_univ (v := (slotRef rbM s).view) fd ((slotRef sbM s).view.read (Elt F) fs)) _).trans (readSlot_eq sbM s fs j).symm)

omit [FloatOps F] in
/-- A slot just stored reads as what was stored. -/
theorem read_stored (s : Fin 24) (f : (cc0_scratch0 : Ref sig .tc).ty.Contents (Elt F)) (v : Vec F S1x256x128 .f32) :
    readSlot (F := F) sbM s ((sbM.access (slotRect s) : View sig .tc _ _ _).write (Elt F) f v Finset.univ) = v :=
  View.read_write_univ ..

/-! ## Contents -/

/-- The left operand as staged on device `c`. -/
def xstg (c : Dev nD) : (cc0_stg0_0 : Ref sig .tc).ty.Contents (Elt F) :=
  (win0_0.blk (0 : Fin 1)).view.read (Elt F) ((s₀ m ρ).mem ((c : Thread nD τ).loc main_arg0))
/-- The right operand as staged on device `c`. -/
def wstg (c : Dev nD) : (cc0_stg1_0 : Ref sig .tc).ty.Contents (Elt F) :=
  (win0_1.blk (0 : Fin 1)).view.read (Elt F) ((s₀ m ρ).mem ((c : Thread nD τ).loc main_arg1))

/-- The rows of the chunk `k` places after `c`'s own. -/
def xrow (c : Dev nD) (k : Fin 4) : Vec F S256x256 .f32 := xM.view.readAt (Elt F) (rowRect c k).toLoadRect (xstg m ρ c)
/-- The columns of segment `q`. -/
def wcol (c : Dev nD) (q : Fin 8) : Vec F S256x128 .f32 := wM.view.readAt (Elt F) (colRect q).toLoadRect (wstg m ρ c)

/-- Device `c`'s own product for segment `q` at hop `h`. -/
def ownSlot (c : Dev nD) (q : Fin 8) (h : Fin 3) : Vec F S1x256x128 .f32 := prodSlot (xrow m ρ c (chunk q h)) (wcol m ρ c q)

/-- What device `c` sends of segment `q` at each hop: its own product, added to what the hop before brought. -/
def sent (c : Dev nD) (q : Fin 8) : Fin 3 → Vec F S1x256x128 .f32
  | 0 => ownSlot m ρ c q 0
  | 1 => sumSlot (ownSlot m ρ c q 1) (ownSlot m ρ (src c q) q 0)
  | 2 => sumSlot (ownSlot m ρ c q 2) (sumSlot (ownSlot m ρ (src c q) q 1) (ownSlot m ρ (src (src c q) q) q 0))

/-- What arrives at device `c`. -/
def arrived (c : Dev nD) (k : Hop) : Vec F S1x256x128 .f32 := sent m ρ (src c k.1) k.1 k.2

theorem sent_step (c : Dev nD) (q : Fin 8) (h h' : Fin 3) (hh : h'.val = h.val + 1) :
    sent m ρ c q h' = sumSlot (ownSlot m ρ c q h') (arrived m ρ c (q, h)) := by
  match h, h' with
  | 0, 1 => rfl
  | 1, 2 => rfl

/-- Device `c`'s result in segment `q`. -/
def outseg (c : Dev nD) (q : Fin 8) : Vec F S256x128 .f32 := outv (prodv (xrow m ρ c 0) (wcol m ρ c q)) (arrived m ρ c (q, 2))

/-- The segment a column lies in, and the index inside it. -/
def segOf (i : S256x1024.Idx) : Fin 8 := ⟨(i 1).val / 128, by have h : (i 1).val < 1024 := (i 1).isLt; omega⟩
def inSeg (i : S256x1024.Idx) : S256x128.Idx := fun a => match a with
  | ⟨0, _⟩ => ⟨(i 0).val, (i 0).isLt⟩
  | ⟨1, _⟩ => ⟨(i 1).val % 128, Nat.mod_lt _ (by decide)⟩

theorem seg_idx (i : S256x1024.Idx) : (colRect (segOf i)).emb (inSeg i) = i := by
  funext a
  apply Fin.ext
  match a with
  | ⟨0, _⟩ => show 0 + 1 * (i 0).val = (i 0).val; omega
  | ⟨1, _⟩ => show 128 * ((i 1).val / 128) + 1 * ((i 1).val % 128) = (i 1).val; omega

/-- Device `c`'s result. -/
def outAt (c : Dev nD) : (cc0_stg2_0 : Ref sig .tc).ty.Contents (Elt F) := fun i => outseg m ρ c (segOf i) (inSeg i)

/-- Contents that read as the result in every segment are the result. -/
theorem outAt_of (c : Dev nD) (f : (cc0_stg2_0 : Ref sig .tc).ty.Contents (Elt F))
    (h : ∀ q, oM.view.readAt (Elt F) (colRect q).toLoadRect f = outseg m ρ c q) : f = outAt m ρ c := by
  funext i
  have h' : f ((colRect (segOf i)).emb (inSeg i)) = outseg m ρ c (segOf i) (inSeg i) := congrFun (h (segOf i)) (inSeg i)
  rw [seg_idx] at h'
  exact h'

/-! ## The schedule -/

/-- What the signal `b` of device `c`'s barrier cell hands over: the receive slots of the neighbour on that side (`true` the
    device after `c`) that `c` is going to write. -/
def barPay (c : Dev nD) (b : Bool) : sProp 𝕄 :=
  bigSep Finset.univ fun k : Hop => if right k.1 = b then rbAny (F := F) (dst c k.1) (slotAt k) else iprop(emp)

omit [FloatOps F] in
instance barPay_storable (c : Dev nD) (b : Bool) : BI.Storable (upEmb : UEmb _ 𝕄) (barPay (F := F) c b) := by
  unfold barPay
  have : ∀ k : Hop, BI.Storable (upEmb : UEmb _ 𝕄) (if right k.1 = b then rbAny (F := F) (dst c k.1) (slotAt k) else iprop(emp)) :=
    fun k => by split <;> infer_instance
  infer_instance

/-- What a cell's signal hands over. -/
def pay (c : Dev nD) : Key → Bool → sProp 𝕄
  | none, b => barPay c b
  | some (false, k), _ => sbAny c (slotAt k)
  | some (true, k), _ => rbV c (slotAt k) (arrived m ρ c k)

instance pay_storable (c : Dev nD) (k : Key) (b : Bool) : BI.Storable (upEmb : UEmb _ 𝕄) (pay m ρ c k b) := by
  match k with
  | none => unfold pay; infer_instance
  | some (false, k) => unfold pay; infer_instance
  | some (true, k) => unfold pay; infer_instance

/-- The duties of a cell: the two neighbours' signals, or the one transfer. -/
def dutiesOf : Option Key → Finset Bool
  | some none => Finset.univ
  | some (some _) => {false}
  | none => ∅
/-- The units of one duty. -/
def amountOf : Option Key → ℕ
  | some none => 1
  | _ => N

/-- One round: each cell is used once. -/
def ringRd : Rounds.Schedule (GSem nD τ sig) Bool 𝕄 where
  duties g r := if r = 0 ∧ g.1.2 = .tc then dutiesOf (keyOf g.2) else ∅
  unitless _ := False
  amount g _ _ := amountOf (keyOf g.2)
  payload g _ b := match keyOf g.2 with
    | some k => pay m ρ g.1.1 k b
    | none => iprop(emp)
  amount_pos g _ _ _ := by
    match keyOf g.2 with
    | some none => exact Nat.one_pos
    | some (some _) => exact N_pos
    | none => exact N_pos

instance ringRd_payload_storable (g : GSem nD τ sig) (r : ℕ) (b : Bool) :
    BI.Storable (upEmb : UEmb _ 𝕄) ((ringRd (F := F) m ρ).payload g r b) := by
  show BI.Storable upEmb (match keyOf g.2 with
    | some k => pay m ρ g.1.1 k b
    | none => iprop(emp))
  split <;> infer_instance

theorem duties_at (c : Dev nD) (k : Key) : (ringRd (F := F) m ρ).duties (kcell (c, k)) 0 = dutiesOf (some k) := by
  dsimp only [ringRd]; rw [if_pos ⟨rfl, rfl⟩, keyOf_ksem]
theorem duties_later (g : GSem nD τ sig) : ∀ r, 1 ≤ r → (ringRd (F := F) m ρ).duties g r = ∅ :=
  fun r hr => by dsimp only [ringRd]; rw [if_neg fun h => by omega]
theorem amount_at (c : Dev nD) (k : Key) (b : Bool) : (ringRd (F := F) m ρ).amount (kcell (c, k)) 0 b = amountOf (some k) := by
  dsimp only [ringRd]; rw [keyOf_ksem]
theorem payload_at (c : Dev nD) (k : Key) (b : Bool) : (ringRd (F := F) m ρ).payload (kcell (c, k)) 0 b = pay m ρ c k b := by
  dsimp only [ringRd]; rw [keyOf_ksem]
theorem expect_bar (c : Dev nD) : (ringRd (F := F) m ρ).expect (kcell (c, none)) 0 = 2 := by
  unfold Schedule.expect Schedule.amountOf
  rw [duties_at, Finset.sum_congr rfl fun d _ => amount_at m ρ c none d]
  rfl
theorem expect_xfer (c : Dev nD) (x : Xfer) : (ringRd (F := F) m ρ).expect (kcell (c, some x)) 0 = N := by
  unfold Schedule.expect Schedule.amountOf
  rw [duties_at, Finset.sum_congr rfl fun d _ => amount_at m ρ c (some x) d]
  exact Finset.sum_singleton _ _

theorem rest_xfer (c : Dev nD) (x : Xfer) :
    bigSep ((ringRd (F := F) m ρ).duties (kcell (c, some x)) 0 \ ∅) (fun d => (ringRd (F := F) m ρ).payload (kcell (c, some x)) 0 d) = pay m ρ c (some x) false := by
  rw [Finset.sdiff_empty, duties_at]
  show bigSep {false} _ = _
  rw [bigSep_singleton, payload_at]

/-- Both neighbours' signals together hand over every receive slot `c` is going to write. -/
theorem rest_bar (c : Dev nD) :
    bigSep ((ringRd (F := F) m ρ).duties (kcell (c, none)) 0 \ ∅) (fun d => (ringRd (F := F) m ρ).payload (kcell (c, none)) 0 d)
      ⊢ (bigSep Finset.univ fun k : Hop => rbAny (F := F) (dst c k.1) (slotAt k) : sProp 𝕄) := by
  rw [Finset.sdiff_empty, duties_at]
  show bigSep Finset.univ _ ⊢ _
  rw [bigSep_univ_eq_bigSepL [false, true] (by decide) (by decide), bigSepL_cons_cons, bigSepL_singleton, payload_at, payload_at]
  show iprop(barPay c false ∗ barPay c true) ⊢ _
  unfold barPay
  rw [← bigSep_sep']
  refine bigSep_mono fun k _ => ?_
  cases hk : right k.1
  · rw [if_pos rfl, if_neg Bool.false_ne_true]; exact (sep_emp (PROP := sProp 𝕄)).1
  · rw [if_neg (fun h => Bool.false_ne_true h.symm), if_pos rfl]; exact (emp_sep (PROP := sProp 𝕄)).1

omit [FloatOps F] in
/-- A device's receive slots are what it hands to its two neighbours. -/
theorem bar_give (c : Dev nD) :
    (bigSep Finset.univ fun k : Hop => rbAny (F := F) c (slotAt k) : sProp 𝕄) ⊢ iprop(barPay (F := F) (prv c) true ∗ barPay (F := F) (nxt c) false) := by
  unfold barPay
  rw [← bigSep_sep']
  refine bigSep_mono fun k _ => ?_
  unfold dst
  cases hk : right k.1
  · rw [if_neg Bool.false_ne_true, if_pos rfl, if_neg Bool.false_ne_true, prv_nxt]; exact (emp_sep (PROP := sProp 𝕄)).2
  · rw [if_pos rfl, if_pos rfl, if_neg (fun h => Bool.false_ne_true h.symm), nxt_prv]; exact (sep_emp (PROP := sProp 𝕄)).2

/-! ## What a device owes; the levels -/

/-- What device `c` owes the receive cells of a list of transfers not yet started. -/
def owedL (c : Dev nD) : List Hop → CellTallies nD τ sig Unit
  | [] => 0
  | k :: l => owedL c l + tallyAt (rcvCell (dst c k.1) k) () N

/-- The transfers of one hop, in the order they are started. -/
def hopL (h : Fin 3) (l : List (Fin 8)) : List Hop := l.map fun q => (q, h)

/-- The transfers in the order they are started. -/
def allL : List Hop := hopL 0 order ++ (hopL 1 order ++ hopL 2 order)

/-- What device `c` owes at launch: every transfer's arrival, and a signal to each neighbour. -/
def O₀ (c : Dev nD) : CellTallies nD τ sig Unit := owedL c allL + tallyAt (barCell (nxt c)) () 1 + tallyAt (barCell (prv c)) () 1

def L (g : GSem nD τ sig) : Finset Unit := if g.1.2 = .tc then {()} else ∅
/-- The barrier below the arrivals, an arrival below those of the later hops, all else at the bottom. -/
def lvOf : Option Key → ℕ
  | some none => 1
  | some (some (true, k)) => 2 + k.2.val
  | _ => 0
def lv (g : GSem nD τ sig) (_ : Unit) : ℕ := lvOf (keyOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_rcv (c : Dev nD) (k : Hop) (u : Unit) : lv (rcvCell c k) u = 2 + k.2.val := by unfold lv; rw [keyOf_rcv]; rfl
theorem lv_bar (c : Dev nD) (u : Unit) : lv (barCell c) u = 1 := by unfold lv; rw [keyOf_bar]; rfl

theorem owedL_pos {c : Dev nD} {g : GSem nD τ sig} {u : Unit} : ∀ {l : List Hop}, 0 < owedL c l g u → ∃ k ∈ l, g = rcvCell (dst c k.1) k
  | [], h => absurd h (Nat.lt_irrefl 0)
  | k :: l, h => by
    unfold owedL at h
    rw [Pi.add_apply, Finsupp.add_apply, tallyAt_apply] at h
    by_cases hg : g = rcvCell (dst c k.1) k ∧ u = ()
    · exact ⟨k, List.mem_cons_self .., hg.1⟩
    · rw [if_neg hg, Nat.add_zero] at h
      obtain ⟨k', hk', e⟩ := owedL_pos h
      exact ⟨k', List.mem_cons_of_mem _ hk', e⟩

theorem O₀_pos {c : Dev nD} {g : GSem nD τ sig} {u : Unit} (h : 0 < O₀ c g u) :
    (∃ k, g = rcvCell (dst c k.1) k) ∨ g = barCell (nxt c) ∨ g = barCell (prv c) := by
  unfold O₀ at h
  rw [Pi.add_apply, Finsupp.add_apply, Pi.add_apply, Finsupp.add_apply, tallyAt_apply, tallyAt_apply] at h
  by_contra hn
  rw [not_or, not_or] at hn
  rw [if_neg (fun h' => hn.2.1 h'.1), if_neg (fun h' => hn.2.2 h'.1), Nat.add_zero] at h
  obtain ⟨k, _, e⟩ := owedL_pos h
  exact hn.1 ⟨k, e⟩

omit [FloatOps F] in
/-- A device may wait on a cell below every transfer it has still to start. -/
theorem mayWait_list (c : Dev nD) (sm : SemLoc sig) (l : List Hop) (b : ℕ) (hb : lvOf (keyOf sm) ≤ b) (hl : ∀ k ∈ l, b < 2 + k.2.val) :
    (levAts L lv : sProp 𝕄) ⊢ MayWait (c : Thread nD τ) sm () (owedL c l) :=
  MayOwe.of_cut (L := L) (lev := lv) b (fun p hp => by rw [Finset.mem_singleton.mp hp, L_tc]; exact Finset.mem_singleton_self _)
    (fun g u hg => by obtain ⟨k, _, rfl⟩ := owedL_pos hg; exact Finset.mem_singleton_self _)
    (fun p hp => by rw [Finset.mem_singleton.mp hp]; exact hb)
    (fun g u hg => by obtain ⟨k, hk, rfl⟩ := owedL_pos hg; rw [lv_rcv]; exact hl k hk)

omit [FloatOps F] in
/-- A device may wait for its operands' staging whatever it owes. -/
theorem mayWait_stage (c : Dev nD) (sm : SemLoc sig) (hq : lvOf (keyOf sm) = 0) (O : CellTallies nD τ sig Unit) (hO : O = O₀ c ∨ O = 0) :
    (levAts L lv : sProp 𝕄) ⊢ MayWait (c : Thread nD τ) sm () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | rfl | rfl <;> exact Finset.mem_singleton_self _)
      (fun p hp => by rw [Finset.mem_singleton.mp hp]; exact le_of_eq hq)
      (fun g u hg => by
        rcases O₀_pos hg with ⟨k, rfl⟩ | rfl | rfl
        · rw [lv_rcv]; omega
        · rw [lv_bar]; omega
        · rw [lv_bar]; omega)
  · rw [MayWait_zero]; iintro -; iempintro

end Cert.GemmRing

end
-- ==== Proof.Steps.lean ====
/-
# The kernel's steps

One lemma per kind of step of the kernel's body, each stated for any segment and hop: fill a send slot, start a transfer,
wait for an arrival, add and send on, store a segment of the result, wait for a transfer's source. And one lemma for a
loop: a step proved for every element runs over the list.
-/
module

public import proofs.«01_k».proof.Proof.Proto

@[expose] public section

set_option maxRecDepth 16384

noncomputable section

namespace Cert.GemmRing

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The weakest precondition of a program on device `c`'s TensorCore. -/
abbrev WP (c : Dev nD) {α : Type} (p : KProg F α) (Q : α → sProp 𝕄) : sProp 𝕄 :=
  wp frame (wpE (defs₀ (F := F)) 𝒱₀ (c : Thread nD τ) none) Set.univ p Q

/-- A program proved on its own, at the head of a longer one. -/
theorem wp_seq (c : Dev nD) {α β : Type} {p : KProg F α} {k : α → KProg F β} {P : sProp 𝕄} {Q : α → sProp 𝕄} {Q' : β → sProp 𝕄}
    (h : P ⊢ WP c p Q) : P ⊢ iprop((∀ a, Q a -∗ WP c (k a) Q') -∗ WP c (p >>= k) Q') := by
  unfold WP
  rw [wp_bind]
  exact h.trans (wp_wand _ _ _)

/-- A program proved on its own, as the last part. -/
theorem wp_use (c : Dev nD) {α : Type} {p : KProg F α} {P : sProp 𝕄} {Q Q' : α → sProp 𝕄}
    (h : P ⊢ WP c p Q) : P ⊢ iprop((∀ a, Q a -∗ Q' a) -∗ WP c p Q') := h.trans (wp_wand _ _ _)

omit [FloatOps F] in
theorem bigSep_ins {A : Type} [DecidableEq A] {s : Finset A} {a : A} (h : a ∉ s) (Φ : A → sProp 𝕄) :
    bigSep (insert a s) Φ = iprop(Φ a ∗ bigSep s Φ) := bigSep_insert h

/-- A loop: every step takes its own `Pre a` and the shared `R` at the elements left to do, and gives `Post a` and `R` at
    the elements after it; `G` is kept throughout. -/
theorem wp_each (c : Dev nD) {A : Type} [DecidableEq A] (f : A → KProg F PUnit) (G : sProp 𝕄) [BI.Persistent G] (Pre Post : A → sProp 𝕄) (R : List A → sProp 𝕄)
    (hstep : ∀ a l, iprop(G ∗ Pre a ∗ R (a :: l)) ⊢ WP c (f a) fun _ => iprop(Post a ∗ R l)) :
    ∀ l : List A, l.Nodup → iprop(G ∗ bigSep l.toFinset Pre ∗ R l) ⊢ WP c (each f l) fun _ => iprop(bigSep l.toFinset Post ∗ R [])
  | [], _ => by
    unfold WP
    show _ ⊢ wp _ _ _ (.ret _) _
    rw [wp_ret]
    iintro ⟨-, H⟩
    imodintro
    iexact H
  | a :: l, hl => by
    have ha : a ∉ l.toFinset := fun h => (List.nodup_cons.mp hl).1 (List.mem_toFinset.mp h)
    have ih := wp_each c f G Pre Post R hstep l (List.nodup_cons.mp hl).2
    show _ ⊢ WP c (f a >>= fun _ => each f l) _
    rw [List.toFinset_cons, bigSep_ins ha, bigSep_ins ha]
    iintro ⟨#HG, ⟨Ha, Hl⟩, HR⟩
    iapply (wp_seq c (hstep a l)) $$ [Ha HR]
    · isplitr; · iexact HG
      isplitl [Ha] <;> iassumption
    iintro %_ ⟨Ha, HR⟩
    iapply (wp_use c ih) $$ [Hl HR]
    · isplitr; · iexact HG
      isplitl [Hl] <;> iassumption
    iintro %_ ⟨Hl, HR⟩
    isplitl [Ha Hl]
    · isplitl [Ha] <;> iassumption
    iexact HR

/-! ## Programs of loads and stores -/

/-- The left operand's staging buffer, -/
def xs (c : Dev nD) : sProp 𝕄 := ((c : Thread nD τ).loc cc0_stg0_0) ↦{fullShare} xstg m ρ c
/-- and the right operand's. -/
def ws (c : Dev nD) : sProp 𝕄 := ((c : Thread nD τ).loc cc0_stg1_0) ↦{fullShare} wstg m ρ c
/-- The result's staging buffer, holding the result in every segment outside the list `l`. -/
def os (c : Dev nD) (l : List (Fin 8)) : sProp 𝕄 :=
  iprop(∃ f : Buf (Elt F) ((c : Thread nD τ).loc cc0_stg2_0),
    ⌜∀ q, q ∉ l → oM.view.readAt (Elt F) (colRect q).toLoadRect f = outseg m ρ c q⌝ ∗ (((c : Thread nD τ).loc cc0_stg2_0) ↦{fullShare} f))

theorem sb_load_sub (s : Fin 24) : (sbM.view.setOn (slotRect s).toLoadRect.set) ⊆ (slotRect s).set := by
  intro i hi
  obtain ⟨j, hj, e⟩ := Finset.mem_map.mp hi
  exact e ▸ hj
theorem rb_load_sub (s : Fin 24) : (rbM.view.setOn (slotRect s).toLoadRect.set) ⊆ (slotRect s).set := by
  intro i hi
  obtain ⟨j, hj, e⟩ := Finset.mem_map.mp hi
  exact e ▸ hj
theorem sb_store_sub (s : Fin 24) : (sbM.access (slotRect s) : View sig .tc _ _ _).setOn Finset.univ ⊆ (slotRect s).set := by
  rw [View.setOn_univ]
  exact (View.set_slice_whole _ _).subset

/-- Storing a send slot: whatever it held, it then reads as what was stored. -/
theorem wp_putSlot (c : Dev nD) (s : Fin 24) (v : Vec F S1x256x128 .f32) (f) :
    sbPts c s f ⊢ WP c (putSlot sbM s v) fun _ => sbV c s v := by
  unfold putSlot WP
  simp only [Prog.lift, Prog.bind_op, Prog.bind_ret]
  unfold sbPts
  iintro H
  iapply (wp_load 𝒱₀ (c : Thread nD τ) none Set.univ (m := sbM) (sb_load_sub s)) $$ H; iintro H
  iapply (wp_store 𝒱₀ (c : Thread nD τ) none Set.univ (m := sbM) (r := slotRect s) (Mk := Finset.univ) (sb_store_sub s)) $$ H; iintro H
  rw [wp_ret]; imodintro
  unfold sbV sbPts
  iexists _
  isplitr
  · ipureintro; exact read_stored s f v
  iexact H

/-- Filling a send slot with the device's own product. -/
theorem wp_stage (c : Dev nD) (h : Fin 3) (q : Fin 8) :
    iprop(sbAny (F := F) c (slotAt (q, h)) ∗ (xs m ρ c ∗ ws m ρ c))
      ⊢ WP c (stage xM wM sbM c h q) fun _ => iprop(sbV c (slotAt (q, h)) (ownSlot m ρ c q h) ∗ (xs m ρ c ∗ ws m ρ c)) := by
  unfold stage product WP
  simp only [Prog.lift, Prog.bind_op, Prog.bind_ret]
  unfold sbAny xs ws
  iintro ⟨⟨%f, H⟩, Hx, Hw⟩
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  iapply (wp_use c (wp_putSlot c (slot q h) _ f)) $$ H
  iintro %_ H
  isplitl [H]; · iexact H
  isplitl [Hx] <;> iassumption

/-- The device's own products of the segments of a list, read into a table. -/
theorem wp_owns (c : Dev nD) : ∀ (l : List (Fin 8)) (t : Fin 8 → FVec F S256x128 .f32),
    iprop(xs m ρ c ∗ ws m ρ c) ⊢ WP c (owns xM wM c l t) fun t' =>
      iprop(⌜∀ q, t' q = if q ∈ l then prodv (xrow m ρ c 0) (wcol m ρ c q) else t q⌝ ∗ (xs m ρ c ∗ ws m ρ c))
  | [], t => by
    unfold WP
    show _ ⊢ wp _ _ _ (.ret _) _
    rw [wp_ret]
    iintro H
    imodintro
    isplitr
    · ipureintro; intro q; exact (if_neg List.not_mem_nil).symm
    iexact H
  | q :: l, t => by
    have ih := wp_owns c l (fun q' => if q' = q then prodv (xrow m ρ c 0) (wcol m ρ c q) else t q')
    unfold owns product WP
    simp only [Prog.lift, Prog.bind_op, Prog.bind_ret]
    iintro ⟨Hx, Hw⟩
    unfold xs ws
    iapply (wp_load 𝒱₀ (c : Thread nD τ) none Set.univ (m := xM) (Finset.subset_univ _)) $$ Hx; iintro Hx
    iapply (wp_load 𝒱₀ (c : Thread nD τ) none Set.univ (m := wM) (Finset.subset_univ _)) $$ Hw; iintro Hw
    iapply (wp_use c ih) $$ [Hx Hw]
    · unfold xs ws; isplitl [Hx] <;> iassumption
    iintro %t' ⟨%ht, H⟩
    isplitr
    · ipureintro
      intro q'
      rw [ht]
      by_cases h1 : q' = q
      · subst h1; by_cases h2 : q' ∈ l <;> simp [h2]
      · by_cases h2 : q' ∈ l <;> simp [h1, h2]
    unfold xs ws
    iexact H

/-! ## Transfers -/

/-- Every cell's invariant, under the names the launch allocated, and that every cell is at its round. -/
def records (K : Dev nD × Key → ℕ) : sProp 𝕄 :=
  iprop((bigSep Finset.univ fun ck : Dev nD × Key => cellInv ER (ringRd m ρ) (K ck) (kcell ck))
    ∗ bigSep Finset.univ fun ck : Dev nD × Key => reached ER (kcell ck) 0)

instance records_persistent (K : Dev nD × Key → ℕ) : BI.Persistent (records m ρ K) := by unfold records; infer_instance

variable (K : Dev nD × Key → ℕ)

omit [FloatOps F] in
theorem elim_at {A : Type} [Fintype A] [DecidableEq A] (Φ : A → sProp 𝕄) (a : A) : bigSep Finset.univ Φ ⊢ Φ a := bigSep_elim (Finset.mem_univ a)

theorem inv_at (ck : Dev nD × Key) : records m ρ K ⊢ cellInv ER (ringRd m ρ) (K ck) (kcell ck) := by
  unfold records
  iintro ⟨H, -⟩
  iapply (elim_at (fun ck : Dev nD × Key => (cellInv ER (ringRd m ρ) (K ck) (kcell ck) : sProp 𝕄)) ck); iexact H
theorem reached_at (ck : Dev nD × Key) : records m ρ K ⊢ reached ER (kcell ck) 0 := by
  unfold records
  iintro ⟨-, H⟩
  iapply (elim_at (fun ck : Dev nD × Key => (reached ER (kcell ck) 0 : sProp 𝕄)) ck); iexact H

theorem inv_snd (c : Dev nD) (k : Hop) : records m ρ K ⊢ cellInv ER (ringRd m ρ) (K (c, some (false, k))) (sndCell c k) := inv_at m ρ K (c, some (false, k))
theorem inv_rcv (c : Dev nD) (k : Hop) : records m ρ K ⊢ cellInv ER (ringRd m ρ) (K (c, some (true, k))) (rcvCell c k) := inv_at m ρ K (c, some (true, k))
theorem reached_snd (c : Dev nD) (k : Hop) : records m ρ K ⊢ reached ER (sndCell c k) 0 := reached_at m ρ K (c, some (false, k))
theorem reached_rcv (c : Dev nD) (k : Hop) : records m ρ K ⊢ reached ER (rcvCell c k) 0 := reached_at m ρ K (c, some (true, k))

/-- What a device owes while the transfers of the list are still to start. -/
def owing (c : Dev nD) (l : List Hop) : sProp 𝕄 := iprop(∃ W, owes (c : Thread nD τ) (owedL c l) W)
/-- The duties a transfer discharges: at its own send cell and at the neighbour's receive cell. -/
def sendTok (c : Dev nD) (k : Hop) : sProp 𝕄 :=
  iprop(dutyTok ER (sndCell c k) 0 false ∗ dutyTok ER (rcvCell (dst c k.1) k) 0 false)
/-- What waiting on a transfer's cell takes: being the one who waits, and the credit of the transfer. -/
def waitTok (c : Dev nD) (x : Xfer) : sProp 𝕄 :=
  iprop(atPos ER (kcell (c, some x)) 0 ∅ 0 ∗ cred (tallyAt (kcell (c, some x)) () N))
/-- A cell past its round. -/
def past (c : Dev nD) (k : Key) : sProp 𝕄 := atPos ER (kcell (c, k)) (0 + 1) ∅ 0

omit [FloatOps F] in
theorem sbPts_eq (c : Dev nD) (s : Fin 24) (f) :
    sbPts (F := F) c s f = ((slotRef sbM s).view.loc (c : Thread nD τ) ↦[(slotRef sbM s).view.set]{fullShare} f : sProp 𝕄) := by
  rw [sb_slot_set]; rfl
omit [FloatOps F] in
theorem rbPts_eq (c : Dev nD) (s : Fin 24) (f) :
    rbPts (F := F) c s f = ((slotRef rbM s).view.loc (c : Thread nD τ) ↦[(slotRef rbM s).view.set]{fullShare} f : sProp 𝕄) := by
  rw [rb_slot_set]; rfl

/-- The transfer rule at the ring's cells, addressed to `n = dst c k.1`. -/
theorem wp_send_ring (c n : Dev nD) (k : Hop) (hn : n = dst c k.1) (l : List Hop) (fs fd W)
    {hsc : (slotRef rbM (slotAt k) : Memref sig (Dev.tc n : Thread nD τ).2.kind .vmem S256x128 .f32).view.ref.isScScratch = false}
    {hsrc : (slotRef sbM (slotAt k)).view.WordExact} {hdst : (slotRef rbM (slotAt k)).view.WordExact}
    {hsem : DmaTarget.Typed .vmem (.dma (rcvS k)) (.remote (Dev.tc n : Thread nD τ) (slotRef rbM (slotAt k)) (.dma (sndS k)) hsc)}
    {α : Type} {Q : α → sProp 𝕄} {kont : PUnit → KProg F α} (hv : readSlot sbM (slotAt k) fs = sent m ρ c k.1 k.2) :
    iprop(cellInv ER (ringRd m ρ) (K (c, some (false, k))) (sndCell c k) ∗ cellInv ER (ringRd m ρ) (K (dst c k.1, some (true, k))) (rcvCell (dst c k.1) k)
        ∗ sbPts c (slotAt k) fs ∗ rbPts (dst c k.1) (slotAt k) fd ∗ owes (c : Thread nD τ) (owedL c (k :: l)) W
        ∗ dutyTok ER (sndCell c k) 0 false ∗ reached ER (sndCell c k) 0
        ∗ dutyTok ER (rcvCell (dst c k.1) k) 0 false ∗ reached ER (rcvCell (dst c k.1) k) 0)
      ⊢ iprop(((cred (tallyAt (sndCell c k) () N) ∗ owes (c : Thread nD τ) (owedL c l) W) -∗ WP c (kont ⟨⟩) Q)
          -∗ WP c (.op (.enqueueDma (slotRef sbM (slotAt k)) (.remote (Dev.tc n : Thread nD τ) (slotRef rbM (slotAt k)) (.dma (sndS k)) hsc) (.dma (rcvS k)) hsrc hdst hsem) kont) Q) := by
  subst hn
  have hd₁ := duties_at m ρ c (some (false, k))
  have hd₂ := duties_at m ρ (dst c k.1) (some (true, k))
  have ha₁ := amount_at m ρ c (some (false, k)) false
  have ha₂ := amount_at m ρ (dst c k.1) (some (true, k)) false
  have hp₁ := payload_at m ρ c (some (false, k)) false
  have hp₂ := payload_at m ρ (dst c k.1) (some (true, k)) false
  change (ringRd (F := F) m ρ).duties (sndCell c k) 0 = _ at hd₁
  change (ringRd (F := F) m ρ).duties (rcvCell (dst c k.1) k) 0 = _ at hd₂
  change (ringRd (F := F) m ρ).amount (sndCell c k) 0 false = N at ha₁
  change (ringRd (F := F) m ρ).amount (rcvCell (dst c k.1) k) 0 false = N at ha₂
  change (ringRd (F := F) m ρ).payload (sndCell c k) 0 false = _ at hp₁
  change (ringRd (F := F) m ρ).payload (rcvCell (dst c k.1) k) 0 false = _ at hp₂
  rw [sbPts_eq, rbPts_eq]
  have hp₁' : ((slotRef sbM (slotAt k)).view.loc (c : Thread nD τ) ↦[(slotRef sbM (slotAt k)).view.set]{fullShare} fs : sProp 𝕄)
      ⊢ (ringRd (F := F) m ρ).payload (sndCell c k) 0 false := by
    rw [hp₁]
    unfold pay
    rw [← sbPts_eq]
    exact sbAny_of c (slotAt k) fs
  have hp₂' : ((slotRef rbM (slotAt k)).view.loc (dst c k.1 : Thread nD τ) ↦[(slotRef rbM (slotAt k)).view.set]{fullShare}
        ((slotRef rbM (slotAt k)).view.write (Elt F) fd ((slotRef sbM (slotAt k)).view.read (Elt F) fs) Finset.univ) : sProp 𝕄)
      ⊢ (ringRd (F := F) m ρ).payload (rcvCell (dst c k.1) k) 0 false := by
    rw [hp₂]
    unfold pay rbV
    rw [← rbPts_eq]
    iintro H
    iexists _
    isplitr
    · ipureintro
      rw [read_copied (slotAt k) fd fs, hv]
      unfold arrived
      rw [src_dst]
    iexact H
  have hm₁ : false ∈ (ringRd (F := F) m ρ).duties (sndCell c k) 0 := by rw [hd₁]; exact Finset.mem_singleton_self _
  have hm₂ : false ∈ (ringRd (F := F) m ρ).duties (rcvCell (dst c k.1) k) 0 := by rw [hd₂]; exact Finset.mem_singleton_self _
  have hN : (slotRef rbM (slotAt k)).view.amount (.dma (rcvS k)) = N := rfl
  have hO : owedL c (k :: l) = owedL c l + tallyAt (rcvCell (dst c k.1) k) () N := rfl
  have h := Rounds.wp_send_pointsTo (k := kont) (Q := Q) (hsrc := hsrc) (hdst := hdst) (hsem := hsem) (defs := defs₀ (F := F)) 𝒱₀ ER (ringRd m ρ) (c : Thread nD τ) none (κ₁ := K (c, some (false, k))) (κ₂ := K (dst c k.1, some (true, k)))
    (r₁ := 0) (r₂ := 0) (d₁ := false) (d₂ := false) (fd := fd) hm₁ hm₂ () () N hN ha₁ ha₂ (owedL c l) hO (W := W) hp₁' hp₂' (Es := Set.univ) (hr := Topo.routes_tc _ _) (Γ := PendingWaitsCtx.empty)
  exact h

/-- Starting a transfer. -/
theorem wp_launch (c : Dev nD) (h : Fin 3) (q : Fin 8) (l : List Hop) :
    iprop(records m ρ K ∗ (sbV c (slotAt (q, h)) (sent m ρ c q h) ∗ rbAny (F := F) (dst c q) (slotAt (q, h)) ∗ sendTok c (q, h)) ∗ owing (F := F) c ((q, h) :: l))
      ⊢ WP c (launch sbM rbM cc0_scratch2 cc0_scratch3 c h q) fun _ => iprop(cred (tallyAt (sndCell c (q, h)) () N) ∗ owing (F := F) c l) := by
  unfold launch
  unfold sbV rbAny sendTok owing
  iintro ⟨#HR, ⟨⟨%fs, %hv, Hs⟩, ⟨%fd, Hd⟩, Ht1, Ht2⟩, ⟨%W, HO⟩⟩
  iapply (wp_send_ring m ρ K c (peerOf c q) (q, h) (peerOf_eq c q) l fs fd W hv) $$ [Hs Hd Ht1 Ht2 HO]
  · isplitr; · iapply (inv_snd m ρ K c (q, h)); iexact HR
    isplitr; · iapply (inv_rcv m ρ K (dst c q) (q, h)); iexact HR
    isplitl [Hs]; · iexact Hs
    isplitl [Hd]; · iexact Hd
    isplitl [HO]; · iexact HO
    isplitl [Ht1]; · iexact Ht1
    isplitr; · iapply (reached_snd m ρ K c (q, h)); iexact HR
    isplitl [Ht2]; · iexact Ht2
    iapply (reached_rcv m ρ K (dst c q) (q, h)); iexact HR
  iintro ⟨Hc, HO⟩
  unfold WP
  rw [wp_ret]; imodintro
  isplitl [Hc]; · iexact Hc
  iexists W; iexact HO

/-- Waiting on a transfer's cell: what the cell's signal hands over comes back. -/
theorem wp_wait (c : Dev nD) (x : Xfer) (s : DmaSem sig) (hs : ksem (some x) = .dma s) (l : List Hop) (hl : ∀ k ∈ l, lvOf (some (some x)) < 2 + k.2.val)
    {a b : Memref sig .tc .vmem S256x128 .f32} {ha : a.view.WordExact} {hb : b.view.WordExact} (hN : b.view.dmaCredit = N) :
    iprop((records m ρ K ∗ levAts L lv) ∗ waitTok (F := F) c x ∗ owing (F := F) c l)
      ⊢ WP c (Prog.lift (.waitDma2 s a b ha hb)) fun _ => iprop((past (F := F) c (some x) ∗ pay m ρ c (some x) false) ∗ owing (F := F) c l) := by
  unfold waitTok owing past
  iintro ⟨⟨#HR, #Hlev⟩, ⟨Hat, Hc⟩, ⟨%W, HO⟩⟩
  have hcell : kcell (c, some x) = ((c : Thread nD τ), SemLoc.dma s) := by unfold kcell; rw [hs]
  have hkey : keyOf (SemLoc.dma s) = some (some x) := by rw [← hs]; exact keyOf_ksem _
  ihave #Hinv := (inv_at m ρ K (c, some x)) $$ HR
  have hrest := rest_xfer m ρ c x
  have hexp := expect_xfer m ρ c x
  rw [hcell] at hrest hexp ⊢
  iapply (Rounds.wp_wait_rest_token 𝒱₀ ER (ringRd m ρ) (c : Thread nD τ) none (κ := K (c, some x))
      (wpE_waitDma2_eq 𝒱₀ (c : Thread nD τ) none Set.univ) (Set.mem_univ _) () (O := owedL c l) (W := W) (R := 0) (m := 0) (T := ∅)
      (by rw [Nat.zero_add, hexp])) $$ [Hc HO Hat]
  · isplitr; · iexact Hinv
    isplitl [Hc]; · iexact Hc
    isplitl [HO]; · iexact HO
    isplitr; · iapply (mayWait_list c (.dma s) l (lvOf (some (some x))) (le_of_eq (congrArg lvOf hkey)) hl); iexact Hlev
    iexact Hat
  iintro ⟨HO, Hat, -, Hpay⟩
  rw [wp_ret]; imodintro
  isplitl [Hat Hpay]
  · isplitl [Hat]; · iexact Hat
    iapply (Entails.of_eq hrest); iexact Hpay
  iexists _; iexact HO

omit [FloatOps F] in
theorem credit_slot (b : Memref sig .tc .vmem S24x256x128 .f32) (s : Fin 24) : (slotRef b s).view.dmaCredit = N := rfl

/-- Waiting for an arrival: the receive slot, holding what the neighbour sent. -/
theorem wp_arrive (c : Dev nD) (h : Fin 3) (q : Fin 8) (l : List Hop) (hl : ∀ k ∈ l, h.val < k.2.val) :
    iprop((records m ρ K ∗ levAts L lv) ∗ waitTok (F := F) c (true, (q, h)) ∗ owing (F := F) c l)
      ⊢ WP c (arrive sbM rbM cc0_scratch3 h q) fun _ =>
        iprop((past (F := F) c (some (true, (q, h))) ∗ rbV c (slotAt (q, h)) (arrived m ρ c (q, h))) ∗ owing (F := F) c l) :=
  wp_wait m ρ K c (true, (q, h)) (rcvS (q, h)) rfl l
    (fun k hk => by have := hl k hk; show 2 + h.val < 2 + k.2.val; omega) (credit_slot rbM _)

/-- Waiting until a transfer has read its send slot: the slot is the device's again. -/
theorem wp_drain (c : Dev nD) (q : Fin 8) (h : Fin 3) :
    iprop((records m ρ K ∗ levAts L lv) ∗ waitTok (F := F) c (false, (q, h)) ∗ owing (F := F) c [])
      ⊢ WP c (drain sbM rbM cc0_scratch2 q h) fun _ =>
        iprop((past (F := F) c (some (false, (q, h))) ∗ sbAny (F := F) c (slotAt (q, h))) ∗ owing (F := F) c []) :=
  wp_wait m ρ K c (false, (q, h)) (sndS (q, h)) rfl [] (fun k hk => absurd hk List.not_mem_nil) (credit_slot sbM _)

/-- What a device has of segment `q` before the step that sends hop `h` on to hop `h'`, -/
def hopPre (c : Dev nD) (h h' : Fin 3) (q : Fin 8) : sProp 𝕄 :=
  iprop(waitTok (F := F) c (true, (q, h)) ∗ sbV c (slotAt (q, h')) (ownSlot m ρ c q h') ∗ rbAny (F := F) (dst c q) (slotAt (q, h')) ∗ sendTok (F := F) c (q, h'))
/-- and after it. -/
def hopPost (c : Dev nD) (h h' : Fin 3) (q : Fin 8) : sProp 𝕄 :=
  iprop((past (F := F) c (some (true, (q, h))) ∗ rbAny (F := F) c (slotAt (q, h))) ∗ cred (tallyAt (sndCell c (q, h')) () N))

/-- Waiting for hop `h`, adding it to the device's own product and starting hop `h'`. -/
theorem wp_hop (c : Dev nD) (h h' : Fin 3) (hh : h'.val = h.val + 1) (q : Fin 8) (l : List Hop) (hl : ∀ k ∈ l, h.val < k.2.val) :
    iprop((records m ρ K ∗ levAts L lv) ∗ hopPre m ρ c h h' q ∗ owing (F := F) c ((q, h') :: l))
      ⊢ WP c (hop sbM rbM cc0_scratch2 cc0_scratch3 c h h' q) fun _ => iprop(hopPost (F := F) c h h' q ∗ owing (F := F) c l) := by
  unfold hop hopPre
  iintro ⟨⟨#HR, #Hlev⟩, ⟨Hw, Hs, Hd, Ht⟩, HO⟩
  have hl' : ∀ k ∈ (q, h') :: l, h.val < k.2.val := fun k hk => by
    rcases List.mem_cons.mp hk with rfl | hk
    · show h.val < h'.val; omega
    · exact hl k hk
  iapply (wp_seq c (wp_arrive m ρ K c h q ((q, h') :: l) hl')) $$ [Hw HO]
  · isplitr
    · isplitr <;> iassumption
    isplitl [Hw] <;> iassumption
  iintro %_ ⟨⟨Hp, Hr⟩, HO⟩
  unfold sbV rbV
  icases Hs with ⟨%fs, %hfs, Hs⟩
  icases Hr with ⟨%fr, %hfr, Hr⟩
  unfold WP
  simp only [Prog.lift, Prog.bind_op, Prog.bind_ret]
  unfold sbPts rbPts
  iapply (wp_load 𝒱₀ (c : Thread nD τ) none Set.univ (m := sbM) (sb_load_sub (slotAt (q, h')))) $$ Hs; iintro Hs
  iapply (wp_load 𝒱₀ (c : Thread nD τ) none Set.univ (m := rbM) (rb_load_sub (slotAt (q, h)))) $$ Hr; iintro Hr
  iapply (wp_seq c (wp_putSlot c (slot q h') _ fs)) $$ [Hs]
  · unfold sbPts; iexact Hs
  iintro %_ Hs
  iapply (wp_use c (wp_launch m ρ K c h' q l)) $$ [Hs Hd Ht HO]
  · isplitr; · iexact HR
    isplitl [Hs Hd Ht]
    · isplitl [Hs]
      · rw [sent_step m ρ c q h h' hh, ← hfs, ← hfr]; iexact Hs
      isplitl [Hd] <;> iassumption
    iexact HO
  iintro %_ ⟨Hc, HO⟩
  unfold hopPost
  isplitl [Hp Hr Hc]
  · isplitl [Hp Hr]
    · isplitl [Hp]; · iexact Hp
      iapply (rbAny_of c (slotAt (q, h)) fr)
      unfold rbPts; iexact Hr
    iexact Hc
  iexact HO

/-- Storing one segment of the result leaves the others as they were. -/
theorem read_col_stored (q q' : Fin 8) (f : (cc0_stg2_0 : Ref sig .tc).ty.Contents (Elt F)) (v : Vec F S256x128 .f32) :
    oM.view.readAt (Elt F) (colRect q').toLoadRect ((oM.access (colRect q) : View sig .tc _ _ _).write (Elt F) f v Finset.univ)
      = if q' = q then v else oM.view.readAt (Elt F) (colRect q').toLoadRect f := by
  by_cases h : q' = q
  · subst h
    rw [if_pos rfl]
    exact View.read_write_univ ..
  · rw [if_neg h]
    refine View.readAt_congr fun i hi => View.write_of_not_mem _ _ _ fun hm => h ?_
    obtain ⟨j, hj, e⟩ := Finset.mem_map.mp hi
    have hi' : i ∈ (colRect q').set := e ▸ hj
    rw [View.setOn_univ] at hm
    have hm' : i ∈ (colRect q).set := Eq.mp (congrArg (i ∈ ·) (View.set_slice_whole _ _)) hm
    rw [Rect.mem_set_unit] at hi' hm'
    have h1 := hi' 1
    have h2 := hm' 1
    have e1 : (![0, 128 * q'.val] : Fin 2 → ℕ) 1 = 128 * q'.val := rfl
    have e2 : (![0, 128 * q.val] : Fin 2 → ℕ) 1 = 128 * q.val := rfl
    have e3 : S256x128.size 1 = 128 := rfl
    rw [e1, e3] at h1
    rw [e2, e3] at h2
    apply Fin.ext
    omega

/-- The last step of a segment: what arrived, added to the device's own product and cut off at zero, is stored. -/
theorem wp_finish (c : Dev nD) (own : Fin 8 → FVec F S256x128 .f32) (hown : ∀ q, own q = prodv (xrow m ρ c 0) (wcol m ρ c q)) (q : Fin 8) (l : List (Fin 8)) :
    iprop((records m ρ K ∗ levAts L lv) ∗ waitTok (F := F) c (true, (q, 2)) ∗ (owing (F := F) c [] ∗ os m ρ c (q :: l)))
      ⊢ WP c (finish oM sbM rbM cc0_scratch3 own q) fun _ =>
        iprop((past (F := F) c (some (true, (q, 2))) ∗ rbAny (F := F) c (slotAt (q, 2))) ∗ (owing (F := F) c [] ∗ os m ρ c l)) := by
  unfold finish
  iintro ⟨⟨#HR, #Hlev⟩, Hw, HO, Hos⟩
  iapply (wp_seq c (wp_arrive m ρ K c 2 q [] (fun k hk => absurd hk List.not_mem_nil))) $$ [Hw HO]
  · isplitr
    · isplitr <;> iassumption
    isplitl [Hw] <;> iassumption
  iintro %_ ⟨⟨Hp, Hr⟩, HO⟩
  unfold rbV os
  icases Hr with ⟨%fr, %hfr, Hr⟩
  icases Hos with ⟨%fo, %hfo, Hout⟩
  unfold WP
  simp only [Prog.lift, Prog.bind_op, Prog.bind_ret]
  unfold rbPts
  iapply (wp_load 𝒱₀ (c : Thread nD τ) none Set.univ (m := rbM) (rb_load_sub (slotAt (q, 2)))) $$ Hr; iintro Hr
  iapply (wp_load 𝒱₀ (c : Thread nD τ) none Set.univ (m := oM) (Finset.subset_univ _)) $$ Hout; iintro Hout
  iapply (wp_store 𝒱₀ (c : Thread nD τ) none Set.univ (m := oM) (r := colRect q) (Mk := Finset.univ) (Finset.subset_univ _)) $$ Hout; iintro Hout
  rw [wp_ret]; imodintro
  isplitl [Hp Hr]
  · isplitl [Hp]; · iexact Hp
    iapply (rbAny_of c (slotAt (q, 2)) fr)
    unfold rbPts; iexact Hr
  isplitl [HO]; · iexact HO
  iexists ((oM.access (colRect q) : View sig .tc _ _ _).write (Elt F) fo (outv (own q) (readSlot rbM (slotAt (q, 2)) fr)) Finset.univ)
  isplitr
  · ipureintro
    intro q' hq'
    rw [read_col_stored]
    by_cases h : q' = q
    · subst h
      rw [if_pos rfl, hown, hfr]
      rfl
    · rw [if_neg h]
      exact hfo q' fun hm => (List.mem_cons.mp hm).elim h hq'
  iexact Hout

end Cert.GemmRing

end
-- ==== Proof.Body.lean ====
/-
# The kernel's body on one device

The body is run from the barrier's handshake to the last wait: both neighbours are told that this device's receive slots
are free, the three hops are started and added up, the result is stored, and the sends are waited for. At the end every
slot is the device's again and every cell is closed.
-/
module

public import proofs.«01_k».proof.Proof.Steps

@[expose] public section

set_option maxRecDepth 16384

noncomputable section

namespace Cert.GemmRing

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Separating conjunctions over cells and hops -/

omit [FloatOps F] in
/-- Over a device's cells: the barrier, the sends, the receives. -/
theorem bigSep_key (Φ : Key → sProp 𝕄) :
    bigSep Finset.univ Φ = iprop(Φ none ∗ (bigSep Finset.univ fun k : Hop => Φ (some (false, k))) ∗ bigSep Finset.univ fun k : Hop => Φ (some (true, k))) := by
  rw [show (Finset.univ : Finset Key) = insert none (Finset.univ.map Function.Embedding.some) from by ext k; cases k <;> simp,
    bigSep_ins (by simp), bigSep_map, bigSep_univ_prod, bigSep_univ_eq_bigSepL [false, true] (by decide) (by decide), bigSepL_cons_cons, bigSepL_singleton]
  rfl

omit [FloatOps F] in
/-- Over the segments and hops: hop by hop. -/
theorem bigSep_hops (Φ : Hop → sProp 𝕄) :
    bigSep Finset.univ Φ = iprop((bigSep Finset.univ fun q => Φ (q, 0)) ∗ (bigSep Finset.univ fun q => Φ (q, 1)) ∗ bigSep Finset.univ fun q => Φ (q, 2)) := by
  rw [bigSep_univ_prod, BI.bigSep_univ_comm, bigSep_univ_eq_bigSepL [0, 1, 2] (by decide) (by decide), bigSepL_cons_cons, bigSepL_cons_cons, bigSepL_singleton]
  rfl

theorem order_all : order.toFinset = Finset.univ := by decide
theorem order_nodup : order.Nodup := by decide
theorem mem_order (q : Fin 8) : q ∈ order := by revert q; decide

/-- A program proved on its own, as the last part, with a step of the ghost state after it. -/
theorem wp_end (c : Dev nD) {α : Type} {p : KProg F α} {P : sProp 𝕄} {Q Q' : α → sProp 𝕄}
    (h : P ⊢ WP c p Q) : P ⊢ iprop((∀ a, Q a -∗ |={Set.univ}=> Q' a) -∗ WP c p Q') := by
  have hf : WP c p (fun a => iprop(|={Set.univ}=> Q' a)) ⊢ WP c p Q' := wp_fupd _ _ _ p Q'
  have hw : P ⊢ iprop((∀ a, Q a -∗ |={Set.univ}=> Q' a) -∗ WP c p fun a => iprop(|={Set.univ}=> Q' a)) := wp_use c h
  exact hw.trans (wand_mono_right hf)

/-! ## The phases -/

section Phases

variable (K : Dev nD × Key → ℕ)

/-- A loop over all segments. -/
theorem wp_order (c : Dev nD) (f : Fin 8 → KProg F PUnit) (G : sProp 𝕄) [BI.Persistent G] (Pre Post : Fin 8 → sProp 𝕄) (R : List (Fin 8) → sProp 𝕄)
    (hstep : ∀ q l, iprop(G ∗ Pre q ∗ R (q :: l)) ⊢ WP c (f q) fun _ => iprop(Post q ∗ R l)) :
    iprop(G ∗ bigSep Finset.univ Pre ∗ R order) ⊢ WP c (each f order) fun _ => iprop(bigSep Finset.univ Post ∗ R []) := by
  have h := wp_each c f G Pre Post R hstep order order_nodup
  rw [order_all] at h
  exact h

/-- All send slots of one hop are filled. -/
theorem phase_stage (c : Dev nD) (h : Fin 3) :
    iprop((bigSep Finset.univ fun q => sbAny (F := F) c (slotAt (q, h))) ∗ (xs m ρ c ∗ ws m ρ c))
      ⊢ WP c (each (stage xM wM sbM c h) order) fun _ =>
        iprop((bigSep Finset.univ fun q => sbV c (slotAt (q, h)) (ownSlot m ρ c q h)) ∗ (xs m ρ c ∗ ws m ρ c)) := by
  have H := wp_order c (stage xM wM sbM c h) iprop(emp) (fun q => sbAny (F := F) c (slotAt (q, h)))
    (fun q => sbV c (slotAt (q, h)) (ownSlot m ρ c q h)) (fun _ => iprop(xs m ρ c ∗ ws m ρ c))
    (fun q l => (emp_sep (PROP := sProp 𝕄)).1.trans (wp_stage m ρ c h q))
  exact (emp_sep (PROP := sProp 𝕄)).2.trans H

/-- All transfers of the first hop are started. -/
theorem phase_launch (c : Dev nD) (rest : List Hop) :
    iprop(records m ρ K ∗ (bigSep Finset.univ fun q => iprop(sbV c (slotAt (q, 0)) (ownSlot m ρ c q 0) ∗ rbAny (F := F) (dst c q) (slotAt (q, 0)) ∗ sendTok (F := F) c (q, 0)))
        ∗ owing (F := F) c (hopL 0 order ++ rest))
      ⊢ WP c (each (launch sbM rbM cc0_scratch2 cc0_scratch3 c 0) order) fun _ =>
        iprop((bigSep Finset.univ fun q => cred (tallyAt (sndCell c (q, 0)) () N)) ∗ owing (F := F) c rest) :=
  wp_order c (launch sbM rbM cc0_scratch2 cc0_scratch3 c 0) (records m ρ K) _ (fun q => cred (tallyAt (sndCell c (q, 0)) () N))
    (fun l => owing (F := F) c (hopL 0 l ++ rest)) (fun q l => wp_launch m ρ K c 0 q (hopL 0 l ++ rest))

/-- One hop of all segments is added up and sent on. -/
theorem phase_hop (c : Dev nD) (h h' : Fin 3) (hh : h'.val = h.val + 1) (rest : List Hop) (hrest : ∀ k ∈ rest, h.val < k.2.val) :
    iprop((records m ρ K ∗ levAts L lv) ∗ (bigSep Finset.univ fun q => hopPre m ρ c h h' q) ∗ owing (F := F) c (hopL h' order ++ rest))
      ⊢ WP c (each (hop sbM rbM cc0_scratch2 cc0_scratch3 c h h') order) fun _ =>
        iprop((bigSep Finset.univ fun q => hopPost (F := F) c h h' q) ∗ owing (F := F) c rest) :=
  wp_order c (hop sbM rbM cc0_scratch2 cc0_scratch3 c h h') iprop(records m ρ K ∗ levAts L lv) _ _
    (fun l => owing (F := F) c (hopL h' l ++ rest)) (fun q l => wp_hop m ρ K c h h' hh q (hopL h' l ++ rest) (by
      intro k hk
      rcases List.mem_append.mp hk with hk | hk
      · obtain ⟨q', _, rfl⟩ := List.mem_map.mp hk
        show h.val < h'.val; omega
      · exact hrest k hk))

/-- All segments of the result are stored. -/
theorem phase_finish (c : Dev nD) (own : Fin 8 → FVec F S256x128 .f32) (hown : ∀ q, own q = prodv (xrow m ρ c 0) (wcol m ρ c q)) :
    iprop((records m ρ K ∗ levAts L lv) ∗ (bigSep Finset.univ fun q => waitTok (F := F) c (true, (q, 2))) ∗ (owing (F := F) c [] ∗ os m ρ c order))
      ⊢ WP c (each (finish oM sbM rbM cc0_scratch3 own) order) fun _ =>
        iprop((bigSep Finset.univ fun q => iprop(past (F := F) c (some (true, (q, 2))) ∗ rbAny (F := F) c (slotAt (q, 2)))) ∗ (owing (F := F) c [] ∗ os m ρ c [])) :=
  wp_order c (finish oM sbM rbM cc0_scratch3 own) iprop(records m ρ K ∗ levAts L lv) _ _
    (fun l => iprop(owing (F := F) c [] ∗ os m ρ c l)) (fun q l => wp_finish m ρ K c own hown q l)

/-- All transfers have read their send slots. -/
theorem phase_drain (c : Dev nD) :
    iprop((records m ρ K ∗ levAts L lv) ∗ (bigSep Finset.univ fun k : Hop => waitTok (F := F) c (false, k)) ∗ owing (F := F) c [])
      ⊢ WP c (each (fun q => each (drain sbM rbM cc0_scratch2 q) [0, 1, 2]) [0, 1, 2, 3, 4, 5, 6, 7]) fun _ =>
        iprop((bigSep Finset.univ fun k : Hop => iprop(past (F := F) c (some (false, k)) ∗ sbAny (F := F) c (slotAt k))) ∗ owing (F := F) c []) := by
  have h3 : ([0, 1, 2] : List (Fin 3)).toFinset = Finset.univ := by decide
  have h8 : ([0, 1, 2, 3, 4, 5, 6, 7] : List (Fin 8)).toFinset = Finset.univ := by decide
  have hin : ∀ (q : Fin 8) (l : List (Fin 8)),
      iprop((records m ρ K ∗ levAts L lv) ∗ (bigSep Finset.univ fun h : Fin 3 => waitTok (F := F) c (false, (q, h))) ∗ owing (F := F) c [])
        ⊢ WP c (each (drain sbM rbM cc0_scratch2 q) [0, 1, 2]) fun _ =>
          iprop((bigSep Finset.univ fun h : Fin 3 => iprop(past (F := F) c (some (false, (q, h))) ∗ sbAny (F := F) c (slotAt (q, h)))) ∗ owing (F := F) c []) := fun q l => by
    have h := wp_each c (drain sbM rbM cc0_scratch2 q) iprop(records m ρ K ∗ levAts L lv) (fun h => waitTok (F := F) c (false, (q, h)))
      (fun h => iprop(past (F := F) c (some (false, (q, h))) ∗ sbAny (F := F) c (slotAt (q, h)))) (fun _ => owing (F := F) c [])
      (fun h l => wp_drain m ρ K c q h) [0, 1, 2] (by decide)
    rw [h3] at h
    exact h
  have h := wp_each c _ iprop(records m ρ K ∗ levAts L lv) _ _ (fun _ => owing (F := F) c []) hin [0, 1, 2, 3, 4, 5, 6, 7] (by decide)
  rw [h8, ← bigSep_univ_prod (fun k : Hop => waitTok (F := F) c (false, k)),
    ← bigSep_univ_prod (fun k : Hop => iprop(past (F := F) c (some (false, k)) ∗ sbAny (F := F) c (slotAt k)))] at h
  exact h

/-- A device's cells, all past their round, are closed: their counters are at zero. -/
theorem close_all (c : Dev nD) :
    iprop(records m ρ K ∗ bigSep Finset.univ fun k : Key => past (F := F) c k)
      ⊢ |={Set.univ}=> bigSep Finset.univ fun k : Key => (semVal (kcell (c, k)) 0 : sProp 𝕄) := by
  have h : ∀ k : Key, iprop(records m ρ K ∗ past (F := F) c k) ⊢ (|={Set.univ}=> semVal (kcell (c, k)) 0 : sProp 𝕄) := fun k => by
    unfold past
    iintro ⟨#HR, H⟩
    iapply (Rounds.cell_close ER (ringRd m ρ) (Set.mem_univ (K (c, k))) (fun h => h) (R := 0 + 1) (duties_later m ρ (kcell (c, k))))
    isplitr; · iapply (inv_at m ρ K (c, k)); iexact HR
    iexact H
  exact ((sep_mono_left (BI.bigSep_of_persistent Finset.univ (records m ρ K))).trans (by rw [← bigSep_sep']; exact bigSep_mono fun k _ => h k)).trans (bigSep_fupd _ _)

/-- Telling a neighbour's barrier, with what that signal hands over. -/
theorem wp_tell (c d : Dev nD) (b : Bool) (O O' : CellTallies nD τ sig Unit) (hO : O' = O + tallyAt (barCell d) () 1) :
    iprop(records m ρ K ∗ (∃ W, owes (c : Thread nD τ) O' W) ∗ dutyTok ER (barCell d) 0 b ∗ barPay (F := F) d b)
      ⊢ WP c (semSignalWord d barSem 1#32) fun _ => iprop(∃ W, owes (c : Thread nD τ) O W) := by
  have hd := duties_at m ρ d none
  have hp : (ringRd (F := F) m ρ).payload ((d : Thread nD τ), SemLoc.reg barSem) 0 b = barPay (F := F) d b := payload_at m ρ d none b
  have ha := amount_at m ρ d none b
  simp only [semSignalWord, Prog.lift]
  iintro ⟨#HR, ⟨%W, HO⟩, Ht, Hp⟩
  ihave #Hinv := (inv_at m ρ K (d, none)) $$ HR
  ihave #Hreach := (reached_at m ρ K (d, none)) $$ HR
  iapply (Rounds.wp_signal 𝒱₀ ER (ringRd m ρ) (c : Thread nD τ) none (dst := (d : Thread nD τ)) (κ := K (d, none))
      (d := b) (hd ▸ Finset.mem_univ b) (ha.trans (by decide)) () O hO) $$ [HO Ht Hp]
  · isplitr; · iexact Hinv
    isplitl [HO]; · iexact HO
    isplitl [Ht]; · iexact Ht
    isplitl [Hp]; · iapply (Entails.of_eq hp.symm); iexact Hp
    iexact Hreach
  iintro HO
  rw [wp_ret]; imodintro
  iexists W; iexact HO

/-- Waiting for both neighbours: their receive slots come with it. -/
theorem wp_bar (c : Dev nD) :
    iprop((records m ρ K ∗ levAts L lv) ∗ (atPos ER (kcell (c, none)) 0 ∅ 0 ∗ cred (tallyAt (kcell (c, none)) () 2)) ∗ owing (F := F) c allL)
      ⊢ WP c (semWaitWord barSem 2#32) fun _ =>
        iprop((past (F := F) c none ∗ bigSep Finset.univ fun k : Hop => rbAny (F := F) (dst c k.1) (slotAt k)) ∗ owing (F := F) c allL) := by
  have hexp := expect_bar m ρ c
  unfold owing past
  simp only [semWaitWord, Prog.lift]
  iintro ⟨⟨#HR, #Hlev⟩, ⟨Hat, Hc⟩, ⟨%W, HO⟩⟩
  ihave #Hinv := (inv_at m ρ K (c, none)) $$ HR
  iapply (Rounds.wp_wait_rest_token 𝒱₀ ER (ringRd m ρ) (c : Thread nD τ) none (κ := K (c, none))
      (wpE_semWait_eq 𝒱₀ (c : Thread nD τ) none Set.univ) (Set.mem_univ _) () (O := owedL c allL) (W := W) (R := 0) (m := 0) (T := ∅)
      (by rw [Nat.zero_add]; exact (show (2#32 : BitVec 32).toNat = 2 by decide).trans hexp.symm)) $$ [Hc HO Hat]
  · isplitr; · iexact Hinv
    isplitl [Hc]; · iexact Hc
    isplitl [HO]; · iexact HO
    isplitr; · iapply (mayWait_list c (.reg barSem) allL 1 (le_of_eq rfl) (fun k _ => by omega)); iexact Hlev
    iexact Hat
  iintro ⟨HO, Hat, -, Hpay⟩
  rw [wp_ret]; imodintro
  isplitl [Hat Hpay]
  · isplitl [Hat]; · iexact Hat
    iapply (rest_bar m ρ c); iexact Hpay
  iexists _; iexact HO

end Phases

/-! ## The body -/

section Whole

variable (K : Dev nD × Key → ℕ)

/-- What a device holds of the ring's cells when it starts, apart from the records: its places at its own cells, its
    two duties at the neighbours' barriers and its duties at the transfers' cells. -/
def linear (c : Dev nD) : sProp 𝕄 :=
  iprop((bigSep Finset.univ fun k : Key => atPos ER (kcell (c, k)) 0 ∅ 0)
    ∗ dutyTok ER (barCell (prv c)) 0 true ∗ dutyTok ER (barCell (nxt c)) 0 false
    ∗ bigSep Finset.univ fun k : Hop => sendTok (F := F) c k)
/-- The credits it waits with: two signals at its barrier, a transfer at each of its receive cells. -/
def credits (c : Dev nD) : sProp 𝕄 :=
  iprop(cred (tallyAt (kcell (c, none)) () 2) ∗ bigSep Finset.univ fun k : Hop => cred (tallyAt (kcell (c, some (true, k))) () N))
/-- Its two scratch buffers, at any contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))
/-- The result's staging buffer, holding the result. -/
def outs (c : Dev nD) : sProp 𝕄 := ((c : Thread nD τ).loc cc0_stg2_0) ↦{fullShare} outAt m ρ c
/-- What the body leaves of the ring: every counter of the device at zero. -/
def closed (c : Dev nD) : sProp 𝕄 := bigSep Finset.univ fun k : Key => semVal (kcell (c, k)) 0

/-- With every segment stored the staging buffer holds the result. -/
theorem os_done (c : Dev nD) : os m ρ c [] ⊢ outs m ρ c := by
  unfold os outs
  iintro ⟨%f, %hf, H⟩
  have h := outAt_of m ρ c f (fun q => hf q (List.not_mem_nil))
  subst h
  iexact H

/-- With no segment stored nothing is known of it. -/
theorem os_begin (c : Dev nD) (f : Buf (Elt F) ((c : Thread nD τ).loc cc0_stg2_0)) :
    (((c : Thread nD τ).loc cc0_stg2_0) ↦{fullShare} f : sProp 𝕄) ⊢ os m ρ c order := by
  unfold os
  iintro H
  iexists f
  isplitr; · ipureintro; exact fun q h => absurd (mem_order q) h
  iexact H

omit [FloatOps F] in
/-- A separating conjunction of three, and of four, taken apart. -/
theorem bigSep_zip3 {A : Type} [DecidableEq A] (s : Finset A) (Φ Ψ Θ : A → sProp 𝕄) :
    iprop(bigSep s Φ ∗ bigSep s Ψ ∗ bigSep s Θ) ⊢ bigSep s fun a => iprop(Φ a ∗ Ψ a ∗ Θ a) := by
  rw [bigSep_sep', bigSep_sep']
omit [FloatOps F] in
theorem bigSep_zip2 {A : Type} [DecidableEq A] (s : Finset A) (Φ Ψ : A → sProp 𝕄) :
    iprop(bigSep s Φ ∗ bigSep s Ψ) ⊢ bigSep s fun a => iprop(Φ a ∗ Ψ a) := by
  rw [bigSep_sep']
omit [FloatOps F] in
theorem bigSep_unzip2 {A : Type} [DecidableEq A] (s : Finset A) (Φ Ψ : A → sProp 𝕄) :
    (bigSep s fun a => iprop(Φ a ∗ Ψ a)) ⊢ iprop(bigSep s Φ ∗ bigSep s Ψ) := by
  rw [bigSep_sep']
omit [FloatOps F] in
theorem bigSep_hops_split (Φ : Hop → sProp 𝕄) :
    bigSep Finset.univ Φ ⊢ iprop((bigSep Finset.univ fun q => Φ (q, 0)) ∗ (bigSep Finset.univ fun q => Φ (q, 1)) ∗ bigSep Finset.univ fun q => Φ (q, 2)) :=
  Entails.of_eq (bigSep_hops Φ)
omit [FloatOps F] in
theorem bigSep_hops_join (Φ : Hop → sProp 𝕄) :
    iprop((bigSep Finset.univ fun q => Φ (q, 0)) ∗ (bigSep Finset.univ fun q => Φ (q, 1)) ∗ bigSep Finset.univ fun q => Φ (q, 2)) ⊢ bigSep Finset.univ Φ :=
  Entails.of_eq (bigSep_hops Φ).symm
omit [FloatOps F] in
theorem bigSep_key_split (Φ : Key → sProp 𝕄) :
    bigSep Finset.univ Φ ⊢ iprop(Φ none ∗ (bigSep Finset.univ fun k : Hop => Φ (some (false, k))) ∗ bigSep Finset.univ fun k : Hop => Φ (some (true, k))) :=
  Entails.of_eq (bigSep_key Φ)
omit [FloatOps F] in
theorem bigSep_key_join (Φ : Key → sProp 𝕄) :
    iprop(Φ none ∗ (bigSep Finset.univ fun k : Hop => Φ (some (false, k))) ∗ bigSep Finset.univ fun k : Hop => Φ (some (true, k))) ⊢ bigSep Finset.univ Φ :=
  Entails.of_eq (bigSep_key Φ).symm

omit [FloatOps F] in
/-- A wait for each of the sends, or for each of the receives. -/
theorem waits_zip (c : Dev nD) (b : Bool) :
    iprop((bigSep Finset.univ fun k : Hop => atPos ER (kcell (c, some (b, k))) 0 ∅ 0)
        ∗ bigSep Finset.univ fun k : Hop => cred (tallyAt (kcell (c, some (b, k))) () N))
      ⊢ (bigSep Finset.univ fun k : Hop => waitTok (F := F) c (b, k) : sProp 𝕄) := by
  unfold waitTok
  exact bigSep_zip2 _ _ _
omit [FloatOps F] in
theorem hopPost_unzip (c : Dev nD) (h h' : Fin 3) :
    (bigSep Finset.univ fun q : Fin 8 => hopPost (F := F) c h h' q : sProp 𝕄)
      ⊢ iprop((bigSep Finset.univ fun q : Fin 8 => iprop(past (F := F) c (some (true, (q, h))) ∗ rbAny (F := F) c (slotAt (q, h))))
        ∗ bigSep Finset.univ fun q : Fin 8 => cred (tallyAt (sndCell c (q, h')) () N)) := by
  unfold hopPost
  exact bigSep_unzip2 _ _ _
theorem hopPre_zip (c : Dev nD) (h h' : Fin 3) :
    iprop((bigSep Finset.univ fun q : Fin 8 => waitTok (F := F) c (true, (q, h)))
        ∗ (bigSep Finset.univ fun q : Fin 8 => sbV c (slotAt (q, h')) (ownSlot m ρ c q h'))
        ∗ (bigSep Finset.univ fun q : Fin 8 => rbAny (F := F) (dst c q) (slotAt (q, h')))
        ∗ bigSep Finset.univ fun q : Fin 8 => sendTok (F := F) c (q, h'))
      ⊢ (bigSep Finset.univ fun q : Fin 8 => hopPre m ρ c h h' q : sProp 𝕄) := by
  unfold hopPre
  rw [bigSep_sep', bigSep_sep', bigSep_sep']

/-- The body on device `c`, from what it starts with to the result in the staging buffer, both scratch buffers its own
    again and every counter at zero. -/
theorem sound_body (c : Dev nD) :
    iprop((records m ρ K ∗ levAts L lv) ∗ linear (F := F) c ∗ credits (F := F) c ∗ scratch (F := F) c
        ∗ (∃ W, owes (c : Thread nD τ) (O₀ c) W) ∗ (xs m ρ c ∗ ws m ρ c)
        ∗ ∃ f : Buf (Elt F) ((c : Thread nD τ).loc cc0_stg2_0), ((c : Thread nD τ).loc cc0_stg2_0) ↦{fullShare} f)
      ⊢ WP c (ringBody xM wM oM sbM rbM cc0_scratch2 cc0_scratch3) fun _ =>
        iprop(scratch (F := F) c ∗ closed (F := F) c ∗ owing (F := F) c [] ∗ (xs m ρ c ∗ ws m ρ c) ∗ outs m ρ c) := by
  unfold ringBody linear credits scratch
  simp only [Prog.lift, Prog.bind_op, Prog.bind_ret, wp_deviceId, dev1_eq c, dev2_eq c]
  iintro ⟨⟨#HR, #Hlev⟩, ⟨Hat, Ht1, Ht2, Hst⟩, ⟨Hcb, Hcr⟩, ⟨⟨%f0, Hsb⟩, ⟨%f1, Hrb⟩⟩, HO, Hxw, ⟨%fo, Hout⟩⟩
  ihave Hat := (bigSep_key_split fun k : Key => atPos ER (kcell (c, k)) 0 ∅ 0) $$ Hat
  icases Hat with ⟨HatB, HatS, HatV⟩
  ihave HwV := (waits_zip (F := F) c true) $$ [HatV Hcr]
  · isplitl [HatV]; · iexact HatV
    iexact Hcr
  ihave HwV := (bigSep_hops_split fun k : Hop => waitTok (F := F) c (true, k)) $$ HwV
  icases HwV with ⟨HwV0, HwV1, HwV2⟩
  ihave Hst := (bigSep_hops_split fun k : Hop => sendTok (F := F) c k) $$ Hst
  icases Hst with ⟨Hst0, Hst1, Hst2⟩
  ihave Hsb := (sb_split c f0) $$ Hsb
  ihave Hsb := (bigSep_hops_split fun k : Hop => sbAny (F := F) c (slotAt k)) $$ Hsb
  icases Hsb with ⟨Hsb0, Hsb1, Hsb2⟩
  ihave Hrb := ((rb_split c f1).trans (bar_give c)) $$ Hrb
  icases Hrb with ⟨Hg1, Hg2⟩
  -- the handshake's signals
  iapply (wp_seq c (wp_tell m ρ K c (prv c) true (owedL c allL + tallyAt (barCell (nxt c)) () 1) (O₀ c) rfl)) $$ [HO Ht1 Hg1]
  · isplitr; · iexact HR
    isplitl [HO]; · iexact HO
    isplitl [Ht1] <;> iassumption
  iintro %_ HO
  iapply (wp_seq c (wp_tell m ρ K c (nxt c) false (owedL c allL) _ rfl)) $$ [HO Ht2 Hg2]
  · isplitr; · iexact HR
    isplitl [HO]; · iexact HO
    isplitl [Ht2] <;> iassumption
  iintro %_ HO
  -- the first hop
  iapply (wp_seq c (phase_stage m ρ c 0)) $$ [Hsb0 Hxw]
  · isplitl [Hsb0] <;> iassumption
  iintro %_ ⟨Hsb0, Hxw⟩
  iapply (wp_seq c (wp_bar m ρ K c)) $$ [HatB Hcb HO]
  · isplitr; · isplitr <;> iassumption
    isplitl [HatB Hcb]
    · isplitl [HatB] <;> iassumption
    unfold owing; iexact HO
  iintro %_ ⟨⟨HpB, Hd⟩, HO⟩
  ihave Hd := (bigSep_hops_split fun k : Hop => rbAny (F := F) (dst c k.1) (slotAt k)) $$ Hd
  icases Hd with ⟨Hd0, Hd1, Hd2⟩
  iapply (wp_seq c (phase_launch m ρ K c (hopL 1 order ++ hopL 2 order))) $$ [Hsb0 Hd0 Hst0 HO]
  · isplitr; · iexact HR
    isplitl [Hsb0 Hd0 Hst0]
    · iapply (bigSep_zip3 _ _ _ _)
      isplitl [Hsb0]; · iexact Hsb0
      isplitl [Hd0] <;> iassumption
    iexact HO
  iintro %_ ⟨Hc0, HO⟩
  iapply (wp_seq c (phase_stage m ρ c 1)) $$ [Hsb1 Hxw]
  · isplitl [Hsb1] <;> iassumption
  iintro %_ ⟨Hsb1, Hxw⟩
  iapply (wp_seq c (phase_stage m ρ c 2)) $$ [Hsb2 Hxw]
  · isplitl [Hsb2] <;> iassumption
  iintro %_ ⟨Hsb2, Hxw⟩
  -- the second
  iapply (wp_seq c (phase_hop m ρ K c 0 1 rfl (hopL 2 order) (by decide))) $$ [HwV0 Hsb1 Hd1 Hst1 HO]
  · isplitr; · isplitr <;> iassumption
    isplitl [HwV0 Hsb1 Hd1 Hst1]
    · iapply (hopPre_zip m ρ c 0 1)
      isplitl [HwV0]; · iexact HwV0
      isplitl [Hsb1]; · iexact Hsb1
      isplitl [Hd1] <;> iassumption
    iexact HO
  iintro %_ ⟨Hp0, HO⟩
  iapply (wp_seq c (wp_owns m ρ c order _)) $$ Hxw
  iintro %own ⟨%hown, Hxw⟩
  -- the third
  iapply (wp_seq c (phase_hop m ρ K c 1 2 rfl [] (by intro k hk; cases hk))) $$ [HwV1 Hsb2 Hd2 Hst2 HO]
  · isplitr; · isplitr <;> iassumption
    isplitl [HwV1 Hsb2 Hd2 Hst2]
    · iapply (hopPre_zip m ρ c 1 2)
      isplitl [HwV1]; · iexact HwV1
      isplitl [Hsb2]; · iexact Hsb2
      isplitl [Hd2] <;> iassumption
    rw [List.append_nil]; iexact HO
  iintro %_ ⟨Hp1, HO⟩
  -- the result
  ihave Hos := (os_begin m ρ c fo) $$ Hout
  iapply (wp_seq c (phase_finish m ρ K c own (fun q => (hown q).trans (if_pos (mem_order q))))) $$ [HwV2 HO Hos]
  · isplitr; · isplitr <;> iassumption
    isplitl [HwV2]; · iexact HwV2
    isplitl [HO] <;> iassumption
  iintro %_ ⟨Hp2, HO, Hos⟩
  -- the sends
  ihave Hp0 := (hopPost_unzip (F := F) c 0 1) $$ Hp0
  icases Hp0 with ⟨Hp0, Hc1⟩
  ihave Hp1 := (hopPost_unzip (F := F) c 1 2) $$ Hp1
  icases Hp1 with ⟨Hp1, Hc2⟩
  ihave Hc := (bigSep_hops_join fun k : Hop => (cred (tallyAt (sndCell c k) () N) : sProp 𝕄)) $$ [Hc0 Hc1 Hc2]
  · isplitl [Hc0]; · iexact Hc0
    isplitl [Hc1] <;> iassumption
  ihave Hp := (bigSep_hops_join fun k : Hop => iprop(past (F := F) c (some (true, k)) ∗ rbAny (F := F) c (slotAt k))) $$ [Hp0 Hp1 Hp2]
  · isplitl [Hp0]; · iexact Hp0
    isplitl [Hp1] <;> iassumption
  ihave Hp := (bigSep_unzip2 Finset.univ (fun k : Hop => past (F := F) c (some (true, k))) (fun k => rbAny (F := F) c (slotAt k))) $$ Hp
  icases Hp with ⟨HpV, Hrb⟩
  ihave Hw := (waits_zip (F := F) c false) $$ [HatS Hc]
  · isplitl [HatS]; · iexact HatS
    iexact Hc
  iapply (wp_end c (phase_drain m ρ K c)) $$ [Hw HO]
  · isplitr; · isplitr <;> iassumption
    isplitl [Hw]; · iexact Hw
    iexact HO
  iintro %_ ⟨Hp, HO⟩
  ihave Hp := (bigSep_unzip2 Finset.univ (fun k : Hop => past (F := F) c (some (false, k))) (fun k => sbAny (F := F) c (slotAt k))) $$ Hp
  icases Hp with ⟨HpS, Hsb⟩
  ihave Hp := (bigSep_key_join fun k : Key => past (F := F) c k) $$ [HpB HpS HpV]
  · isplitl [HpB]; · iexact HpB
    isplitl [HpS] <;> iassumption
  imod (close_all m ρ K c) $$ [Hp] with Hz
  · isplitr; · iexact HR
    iexact Hp
  imodintro
  isplitl [Hsb Hrb]
  · isplitl [Hsb]
    · iapply (sb_join c f0); iexact Hsb
    · iapply (rb_join c f1); iexact Hrb
  isplitl [Hz]; · unfold closed; iexact Hz
  isplitl [HO]; · iexact HO
  isplitl [Hxw]; · iexact Hxw
  iapply (os_done m ρ c); iexact Hos

end Whole

/-! ## The pipeline's data and its obligation -/

/-- What the launch leaves device `c` to begin with. -/
def start (c : Dev nD) : sProp 𝕄 :=
  iprop((∃ K : Dev nD × Key → ℕ, records m ρ K ∗ linear (F := F) c) ∗ credits (F := F) c ∗ levAts L lv)
/-- Before the body: that, and the scratch buffers; -/
def Φ₀ (c : Dev nD) : sProp 𝕄 := iprop(start m ρ c ∗ scratch (F := F) c)
/-- after it: the scratch buffers and every counter at zero. -/
def Φ₁ (c : Dev nD) : sProp 𝕄 := iprop(scratch (F := F) c ∗ closed (F := F) c)

/-- The arrays' contents, what each window's staging buffer holds after the body, and what is owed before and after. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

theorem cfg0_N : cfg0.N = 1 := by decide
/-- The one point. -/
def t₀ : Fin cfg0.N := ⟨0, by rw [cfg0_N]; decide⟩
theorem fin_N (t : Fin cfg0.N) : t = t₀ := by
  obtain ⟨t, ht⟩ := t; have := cfg0_N; simp only [t₀, Fin.mk.injEq]; omega
theorem fetch_x (t : Fin cfg0.N) : (cfg0.win (0 : Fin 3)).fetch t = true := by rw [fin_N t]; rfl
theorem fetch_w (t : Fin cfg0.N) : (cfg0.win (1 : Fin 3)).fetch t = true := by rw [fin_N t]; rfl

omit [FloatOps F] in
theorem bigSep_win (Φ : Fin cfg0.W → sProp 𝕄) : bigSep Finset.univ Φ = iprop(Φ (0 : Fin 3) ∗ Φ (1 : Fin 3) ∗ Φ (2 : Fin 3)) :=
  bigSep_univ_eq_bigSepL [(0 : Fin 3), (1 : Fin 3), (2 : Fin 3)] (by decide) (by decide) Φ

omit [FloatOps F] in
/-- Owning a whole buffer with contents `X`. -/
theorem owns_whole_eq (c : Dev nD) (b : Ref sig .tc) (X) :
    (Idealize.ShloMosaic.owns (c : Thread nD τ) (Memref.whole b) fullShare X : sProp 𝕄)
      = iprop(∃ f : Buf (Elt F) ((c : Thread nD τ).loc b), ⌜f = X⌝ ∗ (((c : Thread nD τ).loc b) ↦{fullShare} f)) := by
  unfold Idealize.ShloMosaic.owns; simp only [Memref.view_whole, View.read_whole, View.set_whole]

/-- A staging buffer with contents `X`. -/
def stg (c : Dev nD) (b : Ref sig .tc) (X : Buf (Elt F) ((c : Thread nD τ).loc b)) : sProp 𝕄 :=
  iprop(∃ f : Buf (Elt F) ((c : Thread nD τ).loc b), ⌜f = X⌝ ∗ (((c : Thread nD τ).loc b) ↦{fullShare} f))

/-- What the pipeline hands the body, -/
def bodyPre (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))
/-- and what it is to hand back. -/
def bodyPost (c : Dev nD) : sProp 𝕄 :=
  iprop(Φ₁ (F := F) c ∗ (dats m ρ 0 c).owesAt () t₀.succ
    ∗ stg c cc0_stg0_0 (xstg m ρ c) ∗ stg c cc0_stg1_0 (wstg m ρ c) ∗ stg c cc0_stg2_0 (outAt m ρ c))

/-- The body on device `c` between the pipeline's two states. -/
theorem body_main (c : Dev nD) :
    bodyPre m ρ c ⊢ WP c (ringBody xM wM oM sbM rbM cc0_scratch2 cc0_scratch3) fun _ => bodyPost m ρ c := by
  unfold bodyPre Φ₀ start stg
  iintro ⟨⟨⟨⟨%K, #HR, Hlin⟩, Hcr, #Hlev⟩, Hscr⟩, Ho, ⟨%d0, %g0, %hg0, Hx⟩, ⟨%d1, %g1, %hg1, Hw⟩, ⟨%d2, %g2, %hg2, Hout⟩⟩
  have hx : g0 = xstg m ρ c := by rw [hg0]; unfold Dat.before; rw [if_pos (fetch_x t₀)]; rfl
  have hw : g1 = wstg m ρ c := by rw [hg1]; unfold Dat.before; rw [if_pos (fetch_w t₀)]; rfl
  subst hx hw
  unfold Dat.owesAt Pipeline.owesWithin
  icases Ho with ⟨%W, %hW, HO⟩
  rw [show (dats m ρ 0 c).owed t₀.castSucc = O₀ c from rfl]
  iapply (wp_use c (sound_body m ρ K c)) $$ [Hlin Hcr Hscr HO Hx Hw Hout]
  · isplitr; · isplitr <;> iassumption
    isplitl [Hlin]; · iexact Hlin
    isplitl [Hcr]; · iexact Hcr
    isplitl [Hscr]; · iexact Hscr
    isplitl [HO]; · iexists W; iexact HO
    isplitl [Hx Hw]
    · unfold xs ws; isplitl [Hx] <;> iassumption
    iexists g2; iexact Hout
  iintro %_ ⟨Hscr, Hz, HO, ⟨Hx, Hw⟩, Hout⟩
  unfold owing
  icases HO with ⟨%W', HO⟩
  unfold bodyPost Φ₁ stg Dat.owesAt Pipeline.owesWithin
  rw [show (dats m ρ 0 c).owed t₀.succ = 0 from rfl]
  isplitl [Hscr Hz]
  · isplitl [Hscr] <;> iassumption
  isplitl [HO]
  · iexists W'
    isplitr; · ipureintro; exact fun _ _ => Or.inl trivial
    iexact HO
  isplitl [Hx]
  · iexists (xstg m ρ c); isplitr; · (ipureintro; rfl)
    unfold xs; iexact Hx
  isplitl [Hw]
  · iexists (wstg m ρ c); isplitr; · (ipureintro; rfl)
    unfold ws; iexact Hw
  iexists (outAt m ρ c); isplitr; · (ipureintro; rfl)
  unfold outs; iexact Hout

/-- The pipeline's obligation for the body on device `c`. -/
theorem body_obligation (c : Dev nD) : BodyObligation (dats (F := F) m ρ 0 c) (defs₀ (F := F)) 𝒱₀ () Set.univ := fun t => by
  rw [fin_N t]
  rw [bigSep_win, bigSep_win]
  simp only [owns_whole_eq]
  have h := body_main m ρ c
  rw [← body_eq xM wM oM sbM rbM cc0_scratch2 cc0_scratch3 (Memref.isWhole_whole _) (Memref.isWhole_whole _) (Memref.isWhole_whole _) (Memref.isWhole_whole _) (Memref.isWhole_whole _)] at h
  exact h

end Cert.GemmRing

end
-- ==== Proof.Run.lean ====
/-
# The run of the whole kernel on four devices

The launch deals every device its cells' ghost state and the duties it discharges; then the kernel's run on all four
devices terminates, with the result's array at the computed contents, the operands unchanged and every counter at zero.
-/
module

public import proofs.«01_k».proof.Proof.Body
public import Idealize.ShloMosaic.Lib.Pipeline.CollectiveSegs

@[expose] public section

set_option maxRecDepth 16384

noncomputable section

namespace Cert.GemmRing

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and their duties at launch -/

theorem ownSemFacts : Pipeline.OwnSemFacts cfg0.spec osem := by decide +kernel

theorem share_eq (c : Dev nD) (w : Fin cfg0.W) : (dats m ρ 0 c).share w = fullShare := by unfold Dat.share; split <;> rfl

/-- Every device's cells. -/
def ringCells : Finset (GSem nD τ sig) := Finset.univ.map ⟨kcell, kcell_injective⟩

/-- A cell's duties: two at the barrier, one at a transfer's cell. -/
abbrev Duty : Type := Bool ⊕ Xfer
def tokOf : Dev nD × Duty → GSem nD τ sig × ℕ × Bool
  | (c, .inl b) => (kcell (c, none), 0, b)
  | (c, .inr x) => (kcell (c, some x), 0, false)
theorem tokOf_injective : Function.Injective tokOf := by
  rintro ⟨c, x⟩ ⟨c', x'⟩ h
  have h1 := congrArg Prod.fst h
  have h2 := congrArg (fun t : GSem nD τ sig × ℕ × Bool => t.2.2) h
  rcases x with b | x <;> rcases x' with b' | x'
  · have e := kcell_injective h1
    have e2 : b = b' := h2
    rw [(Prod.mk.inj e).1, e2]
  · have e := kcell_injective h1
    exact absurd (Prod.mk.inj e).2 (by simp)
  · have e := kcell_injective h1
    exact absurd (Prod.mk.inj e).2 (by simp)
  · have e := kcell_injective h1
    rw [(Prod.mk.inj e).1, Option.some.inj (Prod.mk.inj e).2]
def ringToks : Finset (GSem nD τ sig × ℕ × Bool) := Finset.univ.map ⟨tokOf, tokOf_injective⟩

/-- The ghost state the launch begins with: the pipeline's and the ring's. -/
def u₀ : UU :=
  (initOf (Pipeline.cells cfgs cellOf_inj) (Pipeline.launchToks cfgs cellOf_inj), initOf ringCells ringToks)

/-- The duties at device `c`'s own cells. -/
def toks (c : Dev nD) : sProp 𝕄 :=
  iprop((dutyTok ER (barCell c) 0 false ∗ dutyTok ER (barCell c) 0 true)
    ∗ (bigSep Finset.univ fun k : Hop => dutyTok ER (sndCell c k) 0 false) ∗ bigSep Finset.univ fun k : Hop => dutyTok ER (rcvCell c k) 0 false)

/-- What the launch deals device `c`: -/
def G (c : Dev nD) : sProp 𝕄 :=
  iprop((bigSep Finset.univ fun k : Key => roundState ER (ringRd m ρ) (kcell (c, k)) 0)
    ∗ ((bigSep Finset.univ fun k : Key => atPos ER (kcell (c, k)) 0 ∅ 0) ∗ (bigSep Finset.univ fun k : Key => reached ER (kcell (c, k)) 0)) ∗ toks (F := F) c)

/-- what all devices together make of it. -/
def G' (c : Dev nD) : sProp 𝕄 := iprop(∃ K : Dev nD × Key → ℕ, records m ρ K ∗ linear (F := F) c)

omit [FloatOps F] in
theorem bigSep_bool (Φ : Bool → sProp 𝕄) : bigSep Finset.univ Φ = iprop(Φ false ∗ Φ true) :=
  bigSep_univ_eq_bigSepL [false, true] (by decide) (by decide) Φ

omit [FloatOps F] in
theorem bigSep_duty (Φ : Duty → sProp 𝕄) :
    bigSep Finset.univ Φ = iprop((bigSep Finset.univ fun b => Φ (.inl b)) ∗ bigSep Finset.univ fun x => Φ (.inr x)) := BI.bigSep_univ_sum Φ

omit [FloatOps F] in
theorem toks_eq (c : Dev nD) :
    (bigSep Finset.univ fun x : Duty => (dutyTok ER (tokOf (c, x)).1 (tokOf (c, x)).2.1 (tokOf (c, x)).2.2 : sProp 𝕄)) = toks (F := F) c := by
  unfold toks
  rw [bigSep_duty, bigSep_bool, bigSep_univ_prod, bigSep_bool]
  rfl

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Key => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks (F := F) c := by
    unfold ringToks; rw [bigSep_map, bigSep_univ_prod]
    exact bigSep_congr fun c _ => toks_eq c
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G
  rw [bigSep_sep', bigSep_sep', bigSep_sep']
  isplitl [Hst']; · iexact Hst'
  isplitl [Hat' Hr']
  · isplitl [Hat'] <;> iassumption
  iexact Htok'

/-! ## The counters at launch -/

omit [FloatOps F] in
theorem unscopedSems0_eq (c : Dev nD) : (unscopedSems0 c : sProp 𝕄) = semVal (barCell c) 0 := by
  unfold unscopedSems0; rw [bigSep_eq_bigSepL_of_eq [SemLoc.reg barSem] (by decide +kernel) (by decide)]; rfl

omit [FloatOps F] in
/-- The transfers' counters and the barrier's are the counters of a device's cells. -/
theorem sems0_eq (c : Dev nD) :
    (iprop(unscopedSems0 c ∗ Pipeline.ownSems0 (Ix := Unit) (Name := ℕ) (U := UU) (Lvl := ℕ) (Val := Elt F) (τ := τ) osem c) : sProp 𝕄) = closed (F := F) c := by
  unfold Pipeline.ownSems0 closed
  rw [unscopedSems0_eq, bigSep_key, bigSep_univ_prod, bigSep_bool]
  rfl

/-- Each cell's invariant is set up from its counter and its round state. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Key => iprop(∃ κ : ℕ, cellInv ER (ringRd m ρ) κ (kcell (c, k))))
          ∗ ((bigSep Finset.univ fun k : Key => atPos ER (kcell (c, k)) 0 ∅ 0) ∗ (bigSep Finset.univ fun k : Key => reached ER (kcell (c, k)) 0)) ∗ toks (F := F) c) := by
  have hinv : iprop(closed (F := F) c ∗ bigSep Finset.univ fun k : Key => roundState ER (ringRd m ρ) (kcell (c, k)) 0)
      ⊢ (|={Set.univ}=> bigSep Finset.univ fun k : Key => iprop(∃ κ : ℕ, cellInv ER (ringRd m ρ) κ (kcell (c, k))) : sProp 𝕄) := by
    unfold closed
    rw [← bigSep_sep']
    exact (bigSep_mono fun k _ => (Rounds.body_intro ER (ringRd m ρ) (kcell (c, k))).trans inv_alloc).trans (bigSep_fupd _ _)
  unfold G
  iintro ⟨Hos, Hus, Hst, Hat, Htok⟩
  ihave Hv := (Entails.of_eq (sems0_eq (F := F) c)) $$ [Hos Hus]
  · isplitl [Hus] <;> iassumption
  imod hinv $$ [Hv Hst] with Hinv
  · isplitl [Hv] <;> iassumption
  imodintro
  isplitl [Hinv]; · iexact Hinv
  isplitl [Hat]; · iexact Hat
  iexact Htok

/-! ## The duties dealt to those who discharge them -/

/-- The ring's turn, and, for a segment, the turn in the direction it travels. -/
def ring : Dev nD ≃ Dev nD := ⟨nxt, prv, prv_nxt, nxt_prv⟩
def turn (q : Fin 8) : Dev nD ≃ Dev nD := ⟨fun c => dst c q, fun c => src c q, fun c => src_dst c q, fun c => dst_src c q⟩

omit [FloatOps F] in
/-- The duties at the receive cells go to the devices that send there. -/
theorem recv_around :
    (bigSep Finset.univ fun c : Dev nD => bigSep Finset.univ fun k : Hop => (dutyTok ER (rcvCell c k) 0 false : sProp 𝕄))
      = bigSep Finset.univ fun c : Dev nD => bigSep Finset.univ fun k : Hop => dutyTok ER (rcvCell (dst c k.1) k) 0 false := by
  rw [BI.bigSep_univ_comm,
    BI.bigSep_univ_comm (fun (c : Dev nD) (k : Hop) => (dutyTok ER (rcvCell (dst c k.1) k) 0 false : sProp 𝕄))]
  exact bigSep_congr fun k _ => bigSep_univ_equiv (turn k.1) (fun c : Dev nD => (dutyTok ER (rcvCell c k) 0 false : sProp 𝕄))

/-- What device `c` discharges: its signals to the neighbours' barriers and its transfers. -/
def payToks (c : Dev nD) : sProp 𝕄 :=
  iprop(dutyTok ER (barCell (prv c)) 0 true ∗ dutyTok ER (barCell (nxt c)) 0 false ∗ bigSep Finset.univ fun k : Hop => sendTok (F := F) c k)

omit [FloatOps F] in
theorem toks_around : (bigSep Finset.univ fun c : Dev nD => toks (F := F) c) ⊢ bigSep Finset.univ fun c : Dev nD => payToks (F := F) c := by
  unfold toks payToks sendTok
  simp only [bigSep_sep']
  rw [recv_around,
    bigSep_univ_equiv ring (fun c : Dev nD => (dutyTok ER (barCell c) 0 false : sProp 𝕄)),
    bigSep_univ_equiv ring.symm (fun c : Dev nD => (dutyTok ER (barCell c) 0 true : sProp 𝕄))]
  iintro ⟨⟨H1, H2⟩, H3, H4⟩
  isplitl [H2]; · iexact H2
  isplitl [H1]; · iexact H1
  isplitl [H3]; · iexact H3
  iexact H4

/-- Every device's share, from all devices' cells. -/
theorem regroup :
    (bigSep Finset.univ fun c : Dev nD => iprop((bigSep Finset.univ fun k : Key => iprop(∃ κ : ℕ, cellInv ER (ringRd m ρ) κ (kcell (c, k))))
          ∗ ((bigSep Finset.univ fun k : Key => atPos ER (kcell (c, k)) 0 ∅ 0) ∗ (bigSep Finset.univ fun k : Key => reached ER (kcell (c, k)) 0)) ∗ toks (F := F) c) : sProp 𝕄)
      ⊢ bigSep Finset.univ (G' m ρ) := by
  rw [bigSep_sep', bigSep_sep', bigSep_sep', ← bigSep_univ_prod (fun ck : Dev nD × Key => iprop(∃ κ : ℕ, cellInv ER (ringRd m ρ) κ (kcell ck))),
    ← bigSep_univ_prod (fun ck : Dev nD × Key => (reached ER (kcell ck) 0 : sProp 𝕄))]
  iintro ⟨HI, ⟨Hat, #HR⟩, Htok⟩
  ihave HK := (BI.bigSep_exists_pi Finset.univ (fun (ck : Dev nD × Key) (κ : ℕ) => (cellInv ER (ringRd m ρ) κ (kcell ck) : sProp 𝕄))) $$ HI
  icases HK with ⟨%K, #HI⟩
  ihave Htk := (toks_around (F := F)) $$ Htok
  have hg : ∀ c : Dev nD, iprop(records m ρ K ∗ linear (F := F) c) ⊢ G' m ρ c := fun c => by
    unfold G'
    iintro H
    iexists K; iexact H
  have hall : iprop(records m ρ K ∗ bigSep Finset.univ fun c : Dev nD => linear (F := F) c) ⊢ bigSep Finset.univ (G' m ρ) :=
    (sep_mono_left (BI.bigSep_of_persistent Finset.univ (records m ρ K))).trans (by rw [← bigSep_sep']; exact bigSep_mono fun c _ => hg c)
  have hlin : iprop((bigSep Finset.univ fun c : Dev nD => bigSep Finset.univ fun k : Key => atPos ER (kcell (c, k)) 0 ∅ 0)
      ∗ bigSep Finset.univ fun c : Dev nD => payToks (F := F) c) ⊢ (bigSep Finset.univ fun c : Dev nD => linear (F := F) c : sProp 𝕄) := by
    unfold linear
    exact bigSep_zip2 _ _ _
  iapply hall
  isplitr
  · unfold records; isplitl; · iexact HI
    iexact HR
  · iapply hlin
    isplitl [Hat]; · iexact Hat
    iexact Htk

/-- From every device's counters and ghost state to every device's share. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credits at launch -/

theorem kcell_eq_iff {a b : Dev nD × Key} : Iff (kcell a = kcell b) (a = b) := ⟨fun h => kcell_injective h, fun h => h ▸ rfl⟩

/-- What device `d` owes a receive cell: the transfer's credit, if it is the one that sends there. -/
theorem owedL_rcv (d c : Dev nD) (k : Hop) : ∀ l : List Hop, l.Nodup →
    owedL d l (rcvCell c k) () = if k ∈ l then (if d = src c k.1 then N else 0) else 0
  | [], _ => by rw [if_neg (List.not_mem_nil)]; rfl
  | k' :: l, hl => by
    have hn := List.nodup_cons.mp hl
    unfold owedL
    rw [Pi.add_apply, Finsupp.add_apply, owedL_rcv d c k l hn.2, tallyAt_apply]
    have hiff : (rcvCell c k = rcvCell (dst d k'.1) k') ↔ (k = k' ∧ d = src c k.1) := by
      constructor
      · intro h
        have e := kcell_injective (a₁ := (c, some (true, k))) (a₂ := (dst d k'.1, some (true, k'))) h
        have e1 : c = dst d k'.1 := (Prod.mk.inj e).1
        have e2 : k = k' := (Prod.mk.inj (Option.some.inj (Prod.mk.inj e).2)).2
        subst e2
        exact ⟨rfl, by rw [e1, src_dst]⟩
      · rintro ⟨rfl, rfl⟩
        rw [dst_src]
    by_cases hk : k = k'
    · subst hk
      rw [if_neg hn.1, if_pos (List.mem_cons_self ..), Nat.zero_add]
      exact if_congr ⟨fun h => (hiff.mp h.1).2, fun h => ⟨hiff.mpr ⟨rfl, h⟩, rfl⟩⟩ rfl rfl
    · have hne : ¬(rcvCell c k = rcvCell (dst d k'.1) k' ∧ () = ()) := fun h => hk (hiff.mp h.1).1
      rw [if_neg hne, Nat.add_zero]
      exact if_congr ⟨fun h => List.mem_cons_of_mem _ h, fun h => (List.mem_cons.mp h).resolve_left hk⟩ rfl rfl

/-- It owes no transfer to a barrier. -/
theorem owedL_bar (d c : Dev nD) : ∀ l : List Hop, owedL d l (barCell c) () = 0
  | [] => rfl
  | k :: l => by
    unfold owedL
    rw [Pi.add_apply, Finsupp.add_apply, owedL_bar d c l, tallyAt_apply, if_neg]
    intro h
    have e := kcell_injective (a₁ := (c, none)) (a₂ := (dst d k.1, some (true, k))) h.1
    exact absurd (Prod.mk.inj e).2 (by simp)

theorem mem_allL (k : Hop) : k ∈ allL := by revert k; decide
theorem allL_nodup : allL.Nodup := by decide

theorem rcv_ne_bar {c d : Dev nD} {k : Hop} : rcvCell c k ≠ barCell d := fun h => by
  have e := kcell_injective (a₁ := (c, some (true, k))) (a₂ := (d, none)) h
  exact absurd (Prod.mk.inj e).2 (by simp)
theorem bar_eq {c d : Dev nD} (h : barCell c = barCell d) : c = d :=
  (Prod.mk.inj (kcell_injective (a₁ := (c, none)) (a₂ := (d, none)) h)).1

theorem owed_rcv (d c : Dev nD) (k : Hop) : O₀ d (rcvCell c k) () = if d = src c k.1 then N else 0 := by
  unfold O₀
  rw [Pi.add_apply, Finsupp.add_apply, Pi.add_apply, Finsupp.add_apply, owedL_rcv d c k allL allL_nodup, if_pos (mem_allL k),
    tallyAt_apply, tallyAt_apply, if_neg (c := rcvCell c k = barCell (nxt d) ∧ () = ()) (fun h => rcv_ne_bar h.1),
    if_neg (c := rcvCell c k = barCell (prv d) ∧ () = ()) (fun h => rcv_ne_bar h.1), Nat.add_zero]

theorem owed_bar (d c : Dev nD) : O₀ d (barCell c) () = (if d = prv c then 1 else 0) + (if d = nxt c then 1 else 0) := by
  unfold O₀
  rw [Pi.add_apply, Finsupp.add_apply, Pi.add_apply, Finsupp.add_apply, owedL_bar, Nat.zero_add, tallyAt_apply, tallyAt_apply]
  congr 1
  · exact if_congr ⟨fun h => by rw [bar_eq h.1, prv_nxt], fun h => ⟨by rw [h, nxt_prv], rfl⟩⟩ rfl rfl
  · exact if_congr ⟨fun h => by rw [bar_eq h.1, nxt_prv], fun h => ⟨by rw [h, prv_nxt], rfl⟩⟩ rfl rfl

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]

theorem launch_rcv (c : Dev nD) (k : Hop) :
    tallyOn (rcvCell c k) (launchCredit (Pipeline.owing O₀) 0 (rcvCell c k)) = (tallyAt (rcvCell c k) () N : CellTallies nD τ sig Unit) := by
  unfold tallyAt; refine congrArg _ (Finsupp.ext fun u => ?_); cases u
  rw [Pipeline.launchCredit_owing, Finsupp.single_eq_same, Finset.sum_congr rfl fun d _ => owed_rcv d c k, Finset.sum_ite_eq' Finset.univ (src c k.1) fun _ => N,
    if_pos (Finset.mem_univ _)]

omit [FloatOps F] in
theorem creds (c : Dev nD) : (Pipeline.launchCred O₀ c : sProp 𝕄) ⊢ credits (F := F) c := by
  have hsub : (Pipeline.launchCred O₀ c : sProp 𝕄) ⊢ bigSep Finset.univ fun k : Key =>
      cred (tallyOn (kcell (c, k)) (launchCredit (Pipeline.owing O₀) 0 (kcell (c, k)))) := by
    have h := BI.bigSep_subset (Finset.subset_univ (Finset.univ.map ⟨ksem, ksem_injective⟩))
      (Φ := fun sm : SemLoc sig => (cred (tallyOn ((c : Thread nD τ), sm) (launchCredit (Pipeline.owing O₀) 0 ((c : Thread nD τ), sm))) : sProp 𝕄))
    rw [bigSep_map] at h
    exact h
  have hb := launch_bar c
  have hr := launch_rcv c
  have hkey : (bigSep Finset.univ fun k : Key => (cred (tallyOn (kcell (c, k)) (launchCredit (Pipeline.owing O₀) 0 (kcell (c, k)))) : sProp 𝕄))
      ⊢ iprop(cred (tallyAt (barCell c) () 2) ∗ (bigSep Finset.univ fun k : Hop => (cred (tallyOn (sndCell c k) (launchCredit (Pipeline.owing O₀) 0 (sndCell c k))) : sProp 𝕄))
        ∗ bigSep Finset.univ fun k : Hop => cred (tallyAt (rcvCell c k) () N)) := by
    rw [← hb, ← bigSep_congr (fun k (_ : k ∈ (Finset.univ : Finset Hop)) => congrArg (fun t => (cred t : sProp 𝕄)) (hr k))]
    exact bigSep_key_split _
  iintro H
  ihave H := (hsub.trans hkey) $$ H
  icases H with ⟨Hb, -, Hr⟩
  unfold credits
  isplitl [Hb]; · iexact Hb
  iexact Hr

/-! ## The pipeline's ends -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq]
  unfold Φ₁ scratch
  rw [← sems0_eq]
  iintro ⟨Hr, Hu, Ho⟩
  isplitl [Hu]; · iexact Hu
  isplitl [Ho]; · iexact Ho
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- A window's array once the kernel is done. -/
def finalA (c : Dev nD) (w : Fin cfg0.W) : Buf (Elt F) ((cfg0.win w).arr.view.loc (c : Thread nD τ)) := (dats m ρ 0 c).arrAt w cfg0.N

/-- Every device's arrays are at those contents. -/
def QC : PUnit × MemSt nD τ sig (Elt F) → Prop := fun r =>
  ∀ c : Dev nD, ∀ w : Fin cfg0.W, r.2.mem ((cfg0.win w).arr.view.loc (c : Thread nD τ)) = finalA m ρ c w

/-- On four devices, for any float values and from any memory with its counters at zero: every fair run of the kernel
    terminates, with every device's arrays at the computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_x (c : Dev nD) : finalA m ρ c (0 : Fin 3) = (s₀ m ρ).mem (win0_0.arr.view.loc (c : Thread nD τ)) :=
  (dats (F := F) m ρ 0 c).arrAt_in (0 : Fin 3) rfl _
theorem finalA_w (c : Dev nD) : finalA m ρ c (1 : Fin 3) = (s₀ m ρ).mem (win0_1.arr.view.loc (c : Thread nD τ)) :=
  (dats (F := F) m ρ 0 c).arrAt_in (1 : Fin 3) rfl _

end Cert.GemmRing

end
-- ==== Proof.Value.lean ====
/-
# The kernel's result over the extended reals

At the exact reading of the floats the result on device `c` is, element by element, the products' sum over the four
devices, cut off below at zero: the whole product's rows of chunk `c`.
-/
module

public import proofs.«01_k».proof.Proof.Run
public import Idealize.ShloMosaic.Lib.Pointwise
public import Idealize.ShloMosaic.Lib.Pipeline.ValueKit
public import Idealize.ShloMosaic.Lib.Pipeline.Value
public import Idealize.ShloMosaic.Lib.Layout

@[expose] public section

set_option maxRecDepth 16384

noncomputable section

namespace Cert.GemmRing

open Cert.KernelIdeal Cert.KernelIdeal.Gen
open Idealize.ShloMosaic Idealize.ShloMosaic.TcCoe
open Idealize.SL.Sem

section Out

variable {F : FTy → Type} [FloatOps F]
variable (m : (ℓ : Loc nD τ sig) → Buf (Elt F) ℓ) (ρ : Dev nD → PrngReg)

/-- The result's array ends holding the computed result. -/
theorem finalA_out (c : Dev nD) : finalA m ρ c (2 : Fin 3) = outAt m ρ c := by
  refine (dats m ρ 0 c).arrAt_eq_of_after_last (2 : Fin 3) t₀ (by decide +kernel) _ fun j => ?_
  blk_simp
  rfl

/-- The staged operands are the device's arrays. -/
theorem xstg_eq (c : Dev nD) : xstg m ρ c = m ((c : Thread nD τ).loc main_arg0) := by
  funext j
  unfold xstg
  blk_simp
  refine congrArg (m ((c : Thread nD τ).loc main_arg0)) (funext fun a => Fin.ext ?_)
  match a with
  | ⟨0, _⟩ => blk_simp; show 0 + _ = _; exact Nat.zero_add _
  | ⟨1, _⟩ => blk_simp; show 0 + _ = _; exact Nat.zero_add _
theorem wstg_eq (c : Dev nD) : wstg m ρ c = m ((c : Thread nD τ).loc main_arg1) := by
  funext j
  unfold wstg
  blk_simp
  refine congrArg (m ((c : Thread nD τ).loc main_arg1)) (funext fun a => Fin.ext ?_)
  match a with
  | ⟨0, _⟩ => blk_simp; show 0 + _ = _; exact Nat.zero_add _
  | ⟨1, _⟩ => blk_simp; show 0 + _ = _; exact Nat.zero_add _

end Out

variable (m : (ℓ : Loc nD τ sig) → Buf (Elt Ideal) ℓ) (ρ : Dev nD → PrngReg)

/-- A slot read as a 256×128 array. -/
def flat (v : Vec Ideal S1x256x128 .f32) : FVec Ideal S256x128 .f32 := shapeCast S256x128 v shapeCasts_S1x256x128_S256x128

/-- A block product, element by element. -/
theorem prodv_at (xv : Vec Ideal S256x256 .f32) (wv : Vec Ideal S256x128 .f32) (j : S256x128.Idx) :
    prodv xv wv j = ∑ t : Fin 256, xv (ix2 (j 0) t) * wv (ix2 t (j 1)) := by
  unfold prodv
  pointwise

theorem flat_prod (xv : Vec Ideal S256x256 .f32) (wv : Vec Ideal S256x128 .f32) (j : S256x128.Idx) :
    flat (prodSlot xv wv) j = prodv xv wv j := by
  unfold flat prodSlot
  rw [shapeCast_shapeCast]

theorem flat_sum (a b : Vec Ideal S1x256x128 .f32) (j : S256x128.Idx) :
    flat (sumSlot a b) j = flat a j + flat b j := by
  unfold flat sumSlot
  rw [shapeCast_shapeCast]
  rfl

/-- Where the rows of a chunk start. -/
theorem rowOff_eq (c : Dev nD) (k : Fin 4) : rowOff c k = ![256 * ((c.val + k.val) % 4), 0] := by
  revert c k
  decide +kernel

abbrev SG : Shape := ⟨2, ![1024, 1024]⟩

/-- The share of device `d` in entry (`r`, `l`) of the product of `X` and `W`: the contraction over the 256 inner indices it holds. -/
def share (X W : SG.Idx → EReal) (r l : Fin 1024) (d : Fin 4) : EReal :=
  ∑ t : Fin 256, X (ix2 r ⟨256 * d.val + t.val, by omega⟩) * W (ix2 ⟨256 * d.val + t.val, by omega⟩ l)

/-- The four shares are the whole contraction. -/
theorem share_sum (X W : SG.Idx → EReal) (r l : Fin 1024) :
    ∑ d : Fin 4, share X W r l d = ∑ k : Fin 1024, X (ix2 r k) * W (ix2 k l) := by
  have h := Fin.sum_univ_univ_mul_add (M := EReal) 4 256 fun n =>
    if hn : n < 1024 then X (ix2 r ⟨n, hn⟩) * W (ix2 ⟨n, hn⟩ l) else 0
  refine Eq.trans (Finset.sum_congr rfl fun d _ => Finset.sum_congr rfl fun t _ => ?_) (h.trans (Finset.sum_congr rfl fun k _ => ?_))
  · have hd : d.val * 256 + t.val < 1024 := by omega
    rw [dif_pos hd]
    simp only [Nat.mul_comm 256]
  · exact dif_pos k.isLt

/-- The devices hold column block `c` of `X` and row block `c` of `W`. -/
def Held (X W : SG.Idx → EReal) : Prop :=
  ∀ c : Dev nD, m ((c : Thread nD τ).loc main_arg0) = Layout.block ⟨2, ![1024, 256]⟩ SG 1 4 c X
    ∧ m ((c : Thread nD τ).loc main_arg1) = Layout.block ⟨2, ![256, 1024]⟩ SG 0 4 c W

variable {m}
variable {X W : SG.Idx → EReal}

theorem xrow_at (h : Held m X W) (c : Dev nD) (k : Fin 4) (a t : Fin 256) :
    xrow m ρ c k (ix2 a t) = X (ix2 ⟨256 * ((c.val + k.val) % 4) + a.val, by omega⟩ ⟨256 * c.val + t.val, by have : c.val < 4 := c.isLt; omega⟩) := by
  have e : xrow m ρ c k (ix2 a t) = m ((c : Thread nD τ).loc main_arg0) ((rowRect c k).emb (ix2 a t)) :=
    congrFun (xstg_eq m ρ c) _
  rw [e, (h c).1, Layout.block_apply]
  refine congrArg X (funext fun b => Fin.ext ?_)
  have ho := rowOff_eq c k
  match b with
  | ⟨0, _⟩ =>
    show rowOff c k 0 + 1 * a.val = _
    rw [ho]
    show 256 * ((c.val + k.val) % 4) + 1 * a.val = 256 * ((c.val + k.val) % 4) + a.val
    omega
  | ⟨1, _⟩ =>
    show c.val * 256 + (rowOff c k 1 + 1 * t.val) = _
    rw [ho]
    show c.val * 256 + (0 + 1 * t.val) = 256 * c.val + t.val
    omega

theorem wcol_at (h : Held m X W) (c : Dev nD) (q : Fin 8) (t : Fin 256) (b : Fin 128) :
    wcol m ρ c q (ix2 t b) = W (ix2 ⟨256 * c.val + t.val, by have : c.val < 4 := c.isLt; omega⟩ ⟨128 * q.val + b.val, by omega⟩) := by
  have e : wcol m ρ c q (ix2 t b) = m ((c : Thread nD τ).loc main_arg1) ((colRect q).emb (ix2 t b)) :=
    congrFun (wstg_eq m ρ c) _
  rw [e, (h c).2, Layout.block_apply]
  refine congrArg W (funext fun a => Fin.ext ?_)
  match a with
  | ⟨0, _⟩ =>
    show c.val * 256 + (0 + 1 * t.val) = 256 * c.val + t.val
    omega
  | ⟨1, _⟩ =>
    show 128 * q.val + 1 * b.val = 128 * q.val + b.val
    omega

/-- The block product of device `d` whose row chunk is `c`: its share in those entries. -/
theorem prod_share (h : Held m X W) (c d : Dev nD) (k : Fin 4) (hk : (d.val + k.val) % 4 = c.val) (q : Fin 8) (j : S256x128.Idx)
    (r l : Fin 1024) (hr : r.val = 256 * c.val + (j 0).val) (hl : l.val = 128 * q.val + (j 1).val) :
    prodv (xrow m ρ d k) (wcol m ρ d q) j = share X W r l d := by
  rw [prodv_at]
  refine Finset.sum_congr rfl fun t _ => ?_
  rw [xrow_at ρ h d k (j 0) t, wcol_at ρ h d q t (j 1)]
  congr 3
  · exact Fin.ext (by show 256 * ((d.val + k.val) % 4) + (j 0).val = r.val; rw [hk, hr])
  · exact Fin.ext hl.symm

/-- Device `c`'s chunk at each of the three devices its sum passes, from the last one before it backwards. -/
theorem chunk_last (c : Dev nD) (q : Fin 8) : ((src c q).val + (chunk q 2).val) % 4 = c.val := by revert c q; decide
theorem chunk_mid (c : Dev nD) (q : Fin 8) : ((src (src c q) q).val + (chunk q 1).val) % 4 = c.val := by revert c q; decide
theorem chunk_first (c : Dev nD) (q : Fin 8) : ((src (src (src c q) q) q).val + (chunk q 0).val) % 4 = c.val := by revert c q; decide

/-- Those three devices and `c` are all the devices. -/
theorem ring_list (c : Dev nD) (q : Fin 8) :
    (Finset.univ : Finset (Fin 4)).val = {src c q, src (src c q) q, src (src (src c q) q) q, c} := by revert c q; decide

/-- A sum over the devices, taken along the ring. -/
theorem ring_sum (c : Dev nD) (q : Fin 8) (f : Fin 4 → EReal) :
    f (src c q) + (f (src (src c q) q) + f (src (src (src c q) q) q)) + f c = ∑ d : Fin 4, f d := by
  unfold Finset.sum
  rw [ring_list c q]
  simp only [Multiset.insert_eq_cons, Multiset.map_cons, Multiset.map_singleton, Multiset.sum_cons, Multiset.sum_singleton, add_assoc]

/-- What device `c` stores at an entry: the four shares, cut off below at zero. -/
theorem outseg_at (h : Held m X W) (c : Dev nD) (q : Fin 8) (j : S256x128.Idx)
    (r l : Fin 1024) (hr : r.val = 256 * c.val + (j 0).val) (hl : l.val = 128 * q.val + (j 1).val) :
    outseg m ρ c q j = max (∑ d : Fin 4, share X W r l d) 0 := by
  have hP : ∀ (d : Dev nD) (n : Fin 3), (d.val + (chunk q n).val) % 4 = c.val → flat (ownSlot m ρ d q n) j = share X W r l d := by
    intro d n hk
    unfold ownSlot
    rw [flat_prod]
    exact prod_share ρ h c d _ hk q j r l hr hl
  have e : outseg m ρ c q j = max (flat (arrived m ρ c (q, 2)) j + prodv (xrow m ρ c 0) (wcol m ρ c q) j) (Scalar.ofBits (F := Ideal) .f32 0x00000000#32) := rfl
  have ea : flat (arrived m ρ c (q, 2)) j
      = share X W r l (src c q) + (share X W r l (src (src c q) q) + share X W r l (src (src (src c q) q) q)) := by
    show flat (sumSlot (ownSlot m ρ _ q 2) (sumSlot (ownSlot m ρ _ q 1) (ownSlot m ρ _ q 0))) j = _
    rw [flat_sum, flat_sum, hP _ _ (chunk_last c q), hP _ _ (chunk_mid c q), hP _ _ (chunk_first c q)]
  rw [e, ea, prod_share ρ h c c 0 (by have : c.val < 4 := c.isLt; show (c.val + 0) % 4 = c.val; omega) q j r l hr hl]
  congr 1
  · exact ring_sum c q _
  · pointwise

/-- The whole product, cut off below at zero. -/
def whole (X W : SG.Idx → EReal) : SG.Idx → EReal := fun i => max (∑ k : Fin 1024, X (ix2 (i 0) k) * W (ix2 k (i 1))) 0

/-- Device `c`'s result is row block `c` of it. -/
theorem outAt_block (h : Held m X W) (c : Dev nD) :
    outAt m ρ c = Layout.block ⟨2, ![256, 1024]⟩ SG 0 4 c (whole X W) := by
  funext i
  rw [Layout.block_apply]
  have h0 : (i 0).val < 256 := (i 0).isLt
  have h1 : (i 1).val < 1024 := (i 1).isLt
  have hc : c.val < 4 := c.isLt
  have e := outseg_at ρ h c (segOf i) (inSeg i) ⟨256 * c.val + (i 0).val, by omega⟩ ⟨(i 1).val, h1⟩ rfl
    (by show (i 1).val = 128 * ((i 1).val / 128) + (i 1).val % 128; omega)
  refine (show outAt m ρ c i = _ from e).trans ?_
  rw [share_sum]
  have hi : (⟨256 * c.val + (i 0).val, by omega⟩ : Fin 1024) = ⟨c.val * 256 + (i 0).val, by omega⟩ :=
    Fin.ext (by show 256 * c.val + (i 0).val = c.val * 256 + (i 0).val; omega)
  rw [hi]
  rfl

end Cert.GemmRing

end
-- ==== Proof.lean ====
/-
# The five claims

The frames of the kernel, of its reading over the extended reals and of the reference; the two readings are one text; and
over the extended reals each device ends with its rows of the reference's result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

set_option maxRecDepth 16384

noncomputable section

namespace Cert.Proof

open Idealize.ShloMosaic Idealize.SL.Sem Cert.Kernel

/-- The kernel's run, for any floats: the arguments end unchanged and every counter at zero. -/
theorem frame_run {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run Cert.KernelIdeal.defs (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1))
      ∧ r.2.sem = fun _ => 0) :=
  (θ_run Cert.KernelIdeal.defs _ _).mono
    (fun _ h => ⟨fun c => ⟨(h.1 c (0 : Fin 3)).trans (GemmRing.finalA_x m ρ c), (h.1 c (1 : Fin 3)).trans (GemmRing.finalA_w m ρ c)⟩, h.2⟩)
    (GemmRing.run_main m ρ)

/-- The kernel and its reading over the extended reals are one text: their body tables are equal, -/
theorem bodies_eq : Cert.Kernel.defs₀ (F := Bits) = Cert.KernelIdeal.defs₀ (F := Bits) := by
  refine congrArg Defs.onTc ?_
  funext ℓ x
  match ℓ, x with
  | 0, (t, s) => rfl
  | ⟨_ + 1, h⟩, _ => exact absurd h (Nat.not_lt.2 (Nat.le_add_left _ _))

/-- and so are the tables with the region and the pipeline. -/
theorem defs_eq : Cert.Kernel.defs (F := Bits) = Cert.KernelIdeal.defs (F := Bits) := congrArg (Pipeline.defs _) bodies_eq

/-- The kernel, at the hardware's floats, terminates with its arguments unchanged and every counter at zero. -/
theorem frame_kernel : Cert.quiescent_Kernel := fun m ρ _ => by
  rw [defs_eq]
  exact frame_run (F := Bits) m ρ

/-- The same over the extended reals. -/
theorem frame_kernelIdeal : Cert.quiescent_KernelIdeal := fun m ρ _ => frame_run (F := Ideal) m ρ

/-- The reference terminates with its arguments unchanged; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's result, element by element: the whole product, cut off below at zero. -/
theorem reference_value (X W : FVec Ideal Cert.ReferenceIdeal.S1024x1024 .f32) :
    maximumf (Host.dotGeneral Cert.ReferenceIdeal.dot_S1024x1024_S1024x1024_S1024x1024_1_0_0_1_n_n none X W)
      (broadcastInDim Cert.ReferenceIdeal.S1024x1024 ![] Cert.ReferenceIdeal.Gen.bcast_S_S1024x1024
        (constant Cert.ReferenceIdeal.S_ .f32 0x00000000#32))
      = GemmRing.whole X W := by
  funext i
  unfold GemmRing.whole
  pointwise

/-- On every device the kernel ends with that device's rows of the reference's result. -/
theorem algebraic : Cert.algebraic_KernelIdeal_ReferenceIdeal := by
  intro m ρ m' ρ' hpre hagree
  refine ⟨GemmRing.whole (m' ((Dev.tc 0 : Thread Cert.ReferenceIdeal.nD Cert.ReferenceIdeal.τ).loc Cert.ReferenceIdeal.main_arg0))
    (m' ((Dev.tc 0 : Thread Cert.ReferenceIdeal.nD Cert.ReferenceIdeal.τ).loc Cert.ReferenceIdeal.main_arg1)), ?_, ?_⟩
  · refine (θ_run Cert.KernelIdeal.defs _ _).mono (fun _ h c => ⟨?_, (h.1 c (0 : Fin 3)).trans (GemmRing.finalA_x m ρ c), (h.1 c (1 : Fin 3)).trans (GemmRing.finalA_w m ρ c)⟩)
      (GemmRing.run_main (F := Ideal) m ρ)
    exact (h.1 c (2 : Fin 3)).trans ((GemmRing.finalA_out m ρ c).trans (GemmRing.outAt_block ρ hagree c))
  · exact (θ_run Cert.ReferenceIdeal.defs _ _).mono (fun _ h => ⟨(h 0).1.trans (reference_value _ _), (h 0).2⟩)
      (Cert.ReferenceIdeal.Value.run (F := Ideal) m' ρ')

/-- The five claims. -/
theorem claim : Cert.Claim := ⟨Cert.Kernel.Gen.facts, Cert.KernelIdeal.Gen.facts, Cert.ReferenceIdeal.Gen.facts,
  frame_kernel, frame_kernelIdeal, frame_reference, trivial, algebraic⟩

end Cert.Proof

end
